-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_f [hPre_finite_f : Cert.Pre_finite_f.Facts] (m : (ℓ : Loc Cert.FfnIdeal.nD Cert.FfnIdeal.τ Cert.FfnIdeal.sig) → Buf (Elt Ideal) ℓ) : Prop :=
  ∀ c : Dev Cert.FfnIdeal.nD,
    (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.1 = (fun _ => 1#1)
    ∧ (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_f [hPre_finite_f : Cert.Pre_finite_f.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.1 = (fun _ => 1#1)
    ∧ (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.2 = (fun _ => 1#1)

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_c [hPre_finite_c : Cert.Pre_finite_c.Facts] (m : (ℓ : Loc Cert.ConvIdeal.nD Cert.ConvIdeal.τ Cert.ConvIdeal.sig) → Buf (Elt Ideal) ℓ) : Prop :=
  ∀ c : Dev Cert.ConvIdeal.nD,
    (Cert.Pre_finite_c.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).1 = (fun _ => 1#1)
    ∧ (Cert.Pre_finite_c.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.1 = (fun _ => 1#1)
    ∧ (Cert.Pre_finite_c.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.1 = (fun _ => 1#1)
    ∧ (Cert.Pre_finite_c.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.1 = (fun _ => 1#1)
    ∧ (Cert.Pre_finite_c.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.2.1 = (fun _ => 1#1)
    ∧ (Cert.Pre_finite_c.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_c [hPre_finite_c : Cert.Pre_finite_c.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_c.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).1 = (fun _ => 1#1)
    ∧ (Cert.Pre_finite_c.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.1 = (fun _ => 1#1)
    ∧ (Cert.Pre_finite_c.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.1 = (fun _ => 1#1)
    ∧ (Cert.Pre_finite_c.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.1 = (fun _ => 1#1)
    ∧ (Cert.Pre_finite_c.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.1 = (fun _ => 1#1)
    ∧ (Cert.Pre_finite_c.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_f [hFfnIdeal : Cert.FfnIdeal.Facts] [hPre_finite_f : Cert.Pre_finite_f.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_f m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_f [hFfnRefIdeal : Cert.FfnRefIdeal.Facts] [hPre_finite_f : Cert.Pre_finite_f.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_f m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2)
      ∧ r.2.mem ((c.tc : Thread Cert.FfnDw.nD Cert.FfnDw.τ).loc Cert.FfnDw.main_arg3) = m ((c.tc : Thread Cert.FfnDw.nD Cert.FfnDw.τ).loc Cert.FfnDw.main_arg3)
      ∧ r.2.mem ((c.tc : Thread Cert.FfnDw.nD Cert.FfnDw.τ).loc Cert.FfnDw.main_arg4) = m ((c.tc : Thread Cert.FfnDw.nD Cert.FfnDw.τ).loc Cert.FfnDw.main_arg4))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
      ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3)
      ∧ r.2.mem ((c.tc : Thread Cert.FfnDwIdeal.nD Cert.FfnDwIdeal.τ).loc Cert.FfnDwIdeal.main_arg4) = m ((c.tc : Thread Cert.FfnDwIdeal.nD Cert.FfnDwIdeal.τ).loc Cert.FfnDwIdeal.main_arg4))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2)
      ∧ r.2.mem ((c.tc : Thread Cert.FfnDwRefIdeal.nD Cert.FfnDwRefIdeal.τ).loc Cert.FfnDwRefIdeal.main_arg3) = m ((c.tc : Thread Cert.FfnDwRefIdeal.nD Cert.FfnDwRefIdeal.τ).loc Cert.FfnDwRefIdeal.main_arg3)
      ∧ r.2.mem ((c.tc : Thread Cert.FfnDwRefIdeal.nD Cert.FfnDwRefIdeal.τ).loc Cert.FfnDwRefIdeal.main_arg4) = m ((c.tc : Thread Cert.FfnDwRefIdeal.nD Cert.FfnDwRefIdeal.τ).loc Cert.FfnDwRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_finite_c [hConvIdeal : Cert.ConvIdeal.Facts] [hPre_finite_c : Cert.Pre_finite_c.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_c m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_finite_c [hConvRefIdeal : Cert.ConvRefIdeal.Facts] [hPre_finite_c : Cert.Pre_finite_c.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_c m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def preserves_Ffn_FfnIdeal : Prop :=
  True

def algebraic_FfnIdeal_FfnRefIdeal_pre_finite_f [hFfnIdeal : Cert.FfnIdeal.Facts] [hFfnRefIdeal : Cert.FfnRefIdeal.Facts] [hPre_finite_f : Cert.Pre_finite_f.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_f m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v30_0)) (v1 : (c : Dev Cert.FfnIdeal.nD) → Buf (Elt Ideal) ((c.tc : Thread Cert.FfnIdeal.nD Cert.FfnIdeal.τ).loc Cert.FfnIdeal.main_v30_1)) (v2 : (c : Dev Cert.FfnIdeal.nD) → Buf (Elt Ideal) ((c.tc : Thread Cert.FfnIdeal.nD Cert.FfnIdeal.τ).loc Cert.FfnIdeal.main_v30_2)) (v3 : (c : Dev Cert.FfnIdeal.nD) → Buf (Elt Ideal) ((c.tc : Thread Cert.FfnIdeal.nD Cert.FfnIdeal.τ).loc Cert.FfnIdeal.main_v30_3)) (v4 : (c : Dev Cert.FfnIdeal.nD) → Buf (Elt Ideal) ((c.tc : Thread Cert.FfnIdeal.nD Cert.FfnIdeal.τ).loc Cert.FfnIdeal.main_v30_4)) (v5 : (c : Dev Cert.FfnIdeal.nD) → Buf (Elt Ideal) ((c.tc : Thread Cert.FfnIdeal.nD Cert.FfnIdeal.τ).loc Cert.FfnIdeal.main_v30_5)) (v6 : (c : Dev Cert.FfnIdeal.nD) → Buf (Elt Ideal) ((c.tc : Thread Cert.FfnIdeal.nD Cert.FfnIdeal.τ).loc Cert.FfnIdeal.main_v30_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30_0) = v0 c
          ∧ r.2.mem ((c.tc : Thread Cert.FfnIdeal.nD Cert.FfnIdeal.τ).loc Cert.FfnIdeal.main_v30_1) = v1 c
          ∧ r.2.mem ((c.tc : Thread Cert.FfnIdeal.nD Cert.FfnIdeal.τ).loc Cert.FfnIdeal.main_v30_2) = v2 c
          ∧ r.2.mem ((c.tc : Thread Cert.FfnIdeal.nD Cert.FfnIdeal.τ).loc Cert.FfnIdeal.main_v30_3) = v3 c
          ∧ r.2.mem ((c.tc : Thread Cert.FfnIdeal.nD Cert.FfnIdeal.τ).loc Cert.FfnIdeal.main_v30_4) = v4 c
          ∧ r.2.mem ((c.tc : Thread Cert.FfnIdeal.nD Cert.FfnIdeal.τ).loc Cert.FfnIdeal.main_v30_5) = v5 c
          ∧ r.2.mem ((c.tc : Thread Cert.FfnIdeal.nD Cert.FfnIdeal.τ).loc Cert.FfnIdeal.main_v30_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v55) = v1 c
          ∧ r.2.mem ((c.tc : Thread Cert.FfnRefIdeal.nD Cert.FfnRefIdeal.τ).loc Cert.FfnRefIdeal.main_v56) = v2 c
          ∧ r.2.mem ((c.tc : Thread Cert.FfnRefIdeal.nD Cert.FfnRefIdeal.τ).loc Cert.FfnRefIdeal.main_v52) = v3 c
          ∧ r.2.mem ((c.tc : Thread Cert.FfnRefIdeal.nD Cert.FfnRefIdeal.τ).loc Cert.FfnRefIdeal.main_v35) = v4 c
          ∧ r.2.mem ((c.tc : Thread Cert.FfnRefIdeal.nD Cert.FfnRefIdeal.τ).loc Cert.FfnRefIdeal.main_v57) = v5 c
          ∧ r.2.mem ((c.tc : Thread Cert.FfnRefIdeal.nD Cert.FfnRefIdeal.τ).loc Cert.FfnRefIdeal.main_v58) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)
      ∧ m' ((c.tc : Thread Cert.FfnDwRefIdeal.nD Cert.FfnDwRefIdeal.τ).loc Cert.FfnDwRefIdeal.main_arg2) = m ((c.tc : Thread Cert.FfnDwIdeal.nD Cert.FfnDwIdeal.τ).loc Cert.FfnDwIdeal.main_arg2)
      ∧ m' ((c.tc : Thread Cert.FfnDwRefIdeal.nD Cert.FfnDwRefIdeal.τ).loc Cert.FfnDwRefIdeal.main_arg3) = m ((c.tc : Thread Cert.FfnDwIdeal.nD Cert.FfnDwIdeal.τ).loc Cert.FfnDwIdeal.main_arg3)
      ∧ m' ((c.tc : Thread Cert.FfnDwRefIdeal.nD Cert.FfnDwRefIdeal.τ).loc Cert.FfnDwRefIdeal.main_arg4) = m ((c.tc : Thread Cert.FfnDwIdeal.nD Cert.FfnDwIdeal.τ).loc Cert.FfnDwIdeal.main_arg4)) →
    ∃ (v0 : (c : Dev Cert.FfnDwIdeal.nD) → Buf (Elt Ideal) ((c.tc : Thread Cert.FfnDwIdeal.nD Cert.FfnDwIdeal.τ).loc Cert.FfnDwIdeal.main_v5_0)) (v1 : (c : Dev Cert.FfnDwIdeal.nD) → Buf (Elt Ideal) ((c.tc : Thread Cert.FfnDwIdeal.nD Cert.FfnDwIdeal.τ).loc Cert.FfnDwIdeal.main_v5_1)) (v2 : (c : Dev Cert.FfnDwIdeal.nD) → Buf (Elt Ideal) ((c.tc : Thread Cert.FfnDwIdeal.nD Cert.FfnDwIdeal.τ).loc Cert.FfnDwIdeal.main_v5_2)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v5_0) = v0 c
          ∧ r.2.mem ((c.tc : Thread Cert.FfnDwIdeal.nD Cert.FfnDwIdeal.τ).loc Cert.FfnDwIdeal.main_v5_1) = v1 c
          ∧ r.2.mem ((c.tc : Thread Cert.FfnDwIdeal.nD Cert.FfnDwIdeal.τ).loc Cert.FfnDwIdeal.main_v5_2) = v2 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
          ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3)
          ∧ r.2.mem ((c.tc : Thread Cert.FfnDwIdeal.nD Cert.FfnDwIdeal.τ).loc Cert.FfnDwIdeal.main_arg4) = m ((c.tc : Thread Cert.FfnDwIdeal.nD Cert.FfnDwIdeal.τ).loc Cert.FfnDwIdeal.main_arg4))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v12) = v0 c
          ∧ r.2.mem ((c.tc : Thread Cert.FfnDwRefIdeal.nD Cert.FfnDwRefIdeal.τ).loc Cert.FfnDwRefIdeal.main_v14) = v1 c
          ∧ r.2.mem ((c.tc : Thread Cert.FfnDwRefIdeal.nD Cert.FfnDwRefIdeal.τ).loc Cert.FfnDwRefIdeal.main_v15) = v2 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1)
          ∧ r.2.mem ((c.tc : Thread Cert.FfnDwRefIdeal.nD Cert.FfnDwRefIdeal.τ).loc Cert.FfnDwRefIdeal.main_arg2) = m' ((c.tc : Thread Cert.FfnDwRefIdeal.nD Cert.FfnDwRefIdeal.τ).loc Cert.FfnDwRefIdeal.main_arg2)
          ∧ r.2.mem ((c.tc : Thread Cert.FfnDwRefIdeal.nD Cert.FfnDwRefIdeal.τ).loc Cert.FfnDwRefIdeal.main_arg3) = m' ((c.tc : Thread Cert.FfnDwRefIdeal.nD Cert.FfnDwRefIdeal.τ).loc Cert.FfnDwRefIdeal.main_arg3)
          ∧ r.2.mem ((c.tc : Thread Cert.FfnDwRefIdeal.nD Cert.FfnDwRefIdeal.τ).loc Cert.FfnDwRefIdeal.main_arg4) = m' ((c.tc : Thread Cert.FfnDwRefIdeal.nD Cert.FfnDwRefIdeal.τ).loc Cert.FfnDwRefIdeal.main_arg4))

def preserves_Conv_ConvIdeal : Prop :=
  True

def algebraic_ConvIdeal_ConvRefIdeal_pre_finite_c [hConvIdeal : Cert.ConvIdeal.Facts] [hConvRefIdeal : Cert.ConvRefIdeal.Facts] [hPre_finite_c : Cert.Pre_finite_c.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_c m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v23_0)) (v1 : (c : Dev Cert.ConvIdeal.nD) → Buf (Elt Ideal) ((c.tc : Thread Cert.ConvIdeal.nD Cert.ConvIdeal.τ).loc Cert.ConvIdeal.main_v23_1)) (v2 : (c : Dev Cert.ConvIdeal.nD) → Buf (Elt Ideal) ((c.tc : Thread Cert.ConvIdeal.nD Cert.ConvIdeal.τ).loc Cert.ConvIdeal.main_v23_2)) (v3 : (c : Dev Cert.ConvIdeal.nD) → Buf (Elt Ideal) ((c.tc : Thread Cert.ConvIdeal.nD Cert.ConvIdeal.τ).loc Cert.ConvIdeal.main_v23_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v23_0) = v0 c
          ∧ r.2.mem ((c.tc : Thread Cert.ConvIdeal.nD Cert.ConvIdeal.τ).loc Cert.ConvIdeal.main_v23_1) = v1 c
          ∧ r.2.mem ((c.tc : Thread Cert.ConvIdeal.nD Cert.ConvIdeal.τ).loc Cert.ConvIdeal.main_v23_2) = v2 c
          ∧ r.2.mem ((c.tc : Thread Cert.ConvIdeal.nD Cert.ConvIdeal.τ).loc Cert.ConvIdeal.main_v23_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v102) = v0 c
          ∧ r.2.mem ((c.tc : Thread Cert.ConvRefIdeal.nD Cert.ConvRefIdeal.τ).loc Cert.ConvRefIdeal.main_v67) = v1 c
          ∧ r.2.mem ((c.tc : Thread Cert.ConvRefIdeal.nD Cert.ConvRefIdeal.τ).loc Cert.ConvRefIdeal.main_v103) = v2 c
          ∧ r.2.mem ((c.tc : Thread Cert.ConvRefIdeal.nD Cert.ConvRefIdeal.τ).loc Cert.ConvRefIdeal.main_v85) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)) (v5 : (c : Dev Cert.FfnFwdIdeal.nD) → Buf (Elt Ideal) ((c.tc : Thread Cert.FfnFwdIdeal.nD Cert.FfnFwdIdeal.τ).loc Cert.FfnFwdIdeal.main_v10_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_v10_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v3) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v23) = v2 c
          ∧ r.2.mem ((c.tc : Thread Cert.FfnFwdRefIdeal.nD Cert.FfnFwdRefIdeal.τ).loc Cert.FfnFwdRefIdeal.main_v24) = v3 c
          ∧ r.2.mem ((c.tc : Thread Cert.FfnFwdRefIdeal.nD Cert.FfnFwdRefIdeal.τ).loc Cert.FfnFwdRefIdeal.main_v25) = v4 c
          ∧ r.2.mem ((c.tc : Thread Cert.FfnFwdRefIdeal.nD Cert.FfnFwdRefIdeal.τ).loc Cert.FfnFwdRefIdeal.main_v26) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def Claim : Prop :=
  ∃ (hFfn : Cert.Ffn.Facts) (hFfnIdeal : Cert.FfnIdeal.Facts) (hFfnRefIdeal : Cert.FfnRefIdeal.Facts) (hFfnDw : Cert.FfnDw.Facts) (hFfnDwIdeal : Cert.FfnDwIdeal.Facts) (hFfnDwRefIdeal : Cert.FfnDwRefIdeal.Facts) (hConv : Cert.Conv.Facts) (hConvIdeal : Cert.ConvIdeal.Facts) (hConvRefIdeal : Cert.ConvRefIdeal.Facts) (hFfnFwd : Cert.FfnFwd.Facts) (hFfnFwdIdeal : Cert.FfnFwdIdeal.Facts) (hFfnFwdRefIdeal : Cert.FfnFwdRefIdeal.Facts) (hPre_finite_f : Cert.Pre_finite_f.Facts) (hPre_finite_c : Cert.Pre_finite_c.Facts),
    quiescent_Ffn (hFfn := hFfn)
    ∧ quiescent_FfnIdeal (hFfnIdeal := hFfnIdeal)
    ∧ quiescent_FfnIdeal_pre_finite_f (hFfnIdeal := hFfnIdeal) (hPre_finite_f := hPre_finite_f)
    ∧ quiescent_FfnRefIdeal (hFfnRefIdeal := hFfnRefIdeal)
    ∧ quiescent_FfnRefIdeal_pre_finite_f (hFfnRefIdeal := hFfnRefIdeal) (hPre_finite_f := hPre_finite_f)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_Conv (hConv := hConv)
    ∧ quiescent_ConvIdeal (hConvIdeal := hConvIdeal)
    ∧ quiescent_ConvIdeal_pre_finite_c (hConvIdeal := hConvIdeal) (hPre_finite_c := hPre_finite_c)
    ∧ quiescent_ConvRefIdeal (hConvRefIdeal := hConvRefIdeal)
    ∧ quiescent_ConvRefIdeal_pre_finite_c (hConvRefIdeal := hConvRefIdeal) (hPre_finite_c := hPre_finite_c)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ preserves_Ffn_FfnIdeal
    ∧ algebraic_FfnIdeal_FfnRefIdeal_pre_finite_f (hFfnIdeal := hFfnIdeal) (hFfnRefIdeal := hFfnRefIdeal) (hPre_finite_f := hPre_finite_f)
    ∧ preserves_FfnDw_FfnDwIdeal
    ∧ algebraic_FfnDwIdeal_FfnDwRefIdeal (hFfnDwIdeal := hFfnDwIdeal) (hFfnDwRefIdeal := hFfnDwRefIdeal)
    ∧ preserves_Conv_ConvIdeal
    ∧ algebraic_ConvIdeal_ConvRefIdeal_pre_finite_c (hConvIdeal := hConvIdeal) (hConvRefIdeal := hConvRefIdeal) (hPre_finite_c := hPre_finite_c)
    ∧ preserves_FfnFwd_FfnFwdIdeal
    ∧ algebraic_FfnFwdIdeal_FfnFwdRefIdeal (hFfnFwdIdeal := hFfnFwdIdeal) (hFfnFwdRefIdeal := hFfnFwdRefIdeal)
-- ==== Pre_finite_c.lean ====
abbrev S2x2048x1024 : Shape := ⟨3, ![2, 2048, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S3x1024 : S_.BroadcastsInDim S3x1024 (![] : Fin 0 → Fin S3x1024.rank)

variable [Facts]

def fn {F : FTy → Type} [FloatOps F] (main_arg0 : FVec F S2x2048x1024 .f32) (main_arg1 : FVec F S1024 .f32) (main_arg2 : FVec F S1024x3072 .f32) (main_arg3 : FVec F S3x1024 .f32) (main_arg4 : FVec F S2x2048x1024 .f32) (main_arg5 : FVec F S2x2048x1024 .f32) : IVec S2x2048x1024 1 × IVec S1024 1 × IVec S1024x3072 1 × IVec S3x1024 1 × IVec S2x2048x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S3x1024 .f32 := Host.absf main_arg3
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Pre_finite_f.lean ====
abbrev S2x2048x1024 : Shape := ⟨3, ![2, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S2x2048x1024 .f32) (main_v2 : IVec S2x2048x1024 1) (main_v5 : IVec S2x2048x1024 1) (main_v8 : IVec S1024 1) (main_v11 : IVec S1024x1024 1) (main_v14 : IVec S1024x2816 1) (main_v17 : IVec S1024x2816 1) : IVec S2x2048x1024 1 × IVec S2x2048x1024 1 × IVec S1024 1 × IVec S1024x1024 1 × IVec S1024x2816 1 × IVec S1024x2816 1 × IVec S2816x1024 1 × IVec S2x2048x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S2x2048x1024 .f32 := Host.absf main_arg7
  let main_cst_6 : FVec F S_ .f32 := constant S_ .f32 0x7F800000#32
  let main_v22 : FVec F S2x2048x1024 .f32 := broadcastInDim S2x2048x1024 ![] bcast_S_S2x2048x1024 main_cst_6
  let main_v23 : IVec S2x2048x1024 1 := cmpf .olt main_v21 main_v22
  (main_v2, main_v5, main_v8, main_v11, main_v14, main_v17, main_v20, main_v23)

def fn {F : FTy → Type} [FloatOps F] (main_arg0 : FVec F S2x2048x1024 .f32) (main_arg1 : FVec F S2x2048x1024 .f32) (main_arg2 : FVec F S1024 .f32) (main_arg3 : FVec F S1024x1024 .f32) (main_arg4 : FVec F S1024x2816 .f32) (main_arg5 : FVec F S1024x2816 .f32) (main_arg6 : FVec F S2816x1024 .f32) (main_arg7 : FVec F S2x2048x1024 .f32) : IVec S2x2048x1024 1 × IVec S2x2048x1024 1 × IVec S1024 1 × IVec S1024x1024 1 × IVec S1024x2816 1 × IVec S1024x2816 1 × IVec S2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_arg7 main_v2 main_v5 main_v8 main_v11 main_v14 main_v17
-- ==== Ffn.lean ====
abbrev S2x2048x1024 : Shape := ⟨3, ![2, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x128 : Shape := ⟨2, ![8, 128]⟩
abbrev S256x1024 : Shape := ⟨2, ![256, 1024]⟩
abbrev S256x2816 : Shape := ⟨2, ![256, 2816]⟩
abbrev S768x1024 : Shape := ⟨2, ![768, 1024]⟩
abbrev S256x768 : Shape := ⟨2, ![256, 768]⟩
abbrev S1x1 : Shape := ⟨2, ![1, 1]⟩
abbrev S256 : Shape := ⟨1, ![256]⟩
abbrev S256x1 : Shape := ⟨2, ![256, 1]⟩

abbrev nBuf : Space → Nat
  | .hbm => 49
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x2048x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .bf16⟩
  | .hbm, ⟨30, _⟩ => ⟨S4096x2816, .f32⟩
  | .hbm, ⟨31, _⟩ => ⟨S4096x2816, .bf16⟩
  | .hbm, ⟨32, _⟩ => ⟨S2816x1024, .f32⟩
  | .hbm, ⟨33, _⟩ => ⟨S2816x1024, .bf16⟩
  | .hbm, ⟨34, _⟩ => ⟨S2816x1024, .f32⟩
  | .hbm, ⟨35, _⟩ => ⟨S2816x1024, .bf16⟩
  | .hbm, ⟨36, _⟩ => ⟨S_, .f32⟩
  | .hbm, ⟨37, _⟩ => ⟨S8x128, .f32⟩
  | .hbm, ⟨38, _⟩ => ⟨S4096x1024, .f32⟩
  | .hbm, ⟨39, _⟩ => ⟨S2816x1024, .bf16⟩
  | .hbm, ⟨40, _⟩ => ⟨S1x1024, .f32⟩
  | .hbm, ⟨41, _⟩ => ⟨S1024x1024, .bf16⟩
  | .hbm, ⟨42, _⟩ => ⟨S4096x2816, .bf16⟩
  | .hbm, ⟨43, _⟩ => ⟨S4096x2816, .bf16⟩
  | .hbm, ⟨44, _⟩ => ⟨S4096x1024, .bf16⟩
  | .hbm, ⟨45, _⟩ => ⟨S4096x1024, .f32⟩
  | .hbm, ⟨46, _⟩ => ⟨S1x1024, .f32⟩
  | .hbm, ⟨47, _⟩ => ⟨S4096x1024, .bf16⟩
  | .hbm, ⟨48, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x128, .f32⟩
  | .local _ .vmem, ⟨13, _⟩ => ⟨S1024x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnRefIdeal.lean ====
abbrev S2x2048x1024 : Shape := ⟨3, ![2, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x2048x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x2816, .bf16⟩
  | .hbm, ⟨86, _⟩ => ⟨S4096x2816, .bf16⟩
  | .hbm, ⟨87, _⟩ => ⟨S4096x1024, .bf16⟩
  | .hbm, ⟨88, _⟩ => ⟨S4096x1024, .bf16⟩
  | .hbm, ⟨89, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== FfnDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x1024, .f32⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x1024, .bf16⟩
  | .hbm, ⟨9, _⟩ => ⟨S4096x1024, .bf16⟩
  | .hbm, ⟨10, _⟩ => ⟨S2816x1024, .bf16⟩
  | .hbm, ⟨11, _⟩ => ⟨S2816x1024, .bf16⟩
  | .hbm, ⟨12, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x1024, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDwRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x2816, .f32⟩
  | .hbm, ⟨7, _⟩ => ⟨S2816x1024, .f32⟩
  | .hbm, ⟨8, _⟩ => ⟨S4096x2816, .f32⟩
  | .hbm, ⟨9, _⟩ => ⟨S4096x2816, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | .hbm, ⟨19, _⟩ => ⟨S2816x1024, .f32⟩
  | .hbm, ⟨20, _⟩ => ⟨S2816x1024, .bf16⟩
  | .hbm, ⟨21, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Conv.lean ====
abbrev S2x2048x1024 : Shape := ⟨3, ![2, 2048, 1024]⟩
abbrev S1024 : Shape := ⟨1, ![1024]⟩
abbrev S1024x3072 : Shape := ⟨2, ![1024, 3072]⟩
abbrev S3x1024 : Shape := ⟨2, ![3, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S3072x1024 : Shape := ⟨2, ![3072, 1024]⟩
abbrev S8x128 : Shape := ⟨2, ![8, 128]⟩
abbrev S512x3072 : Shape := ⟨2, ![512, 3072]⟩
abbrev S16x3072 : Shape := ⟨2, ![16, 3072]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S16x256 : Shape := ⟨2, ![16, 256]⟩
abbrev S1x256 : Shape := ⟨2, ![1, 256]⟩
abbrev S256 : Shape := ⟨1, ![256]⟩
abbrev S1x1 : Shape := ⟨2, ![1, 1]⟩
abbrev S512 : Shape := ⟨1, ![512]⟩
abbrev S512x1 : Shape := ⟨2, ![512, 1]⟩

abbrev nBuf : Space → Nat
  | .hbm => 37
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x3072, .f32⟩
  | .hbm, ⟨24, _⟩ => ⟨S4096x3072, .bf16⟩
  | .hbm, ⟨25, _⟩ => ⟨S3072x1024, .f32⟩
  | .hbm, ⟨26, _⟩ => ⟨S3072x1024, .bf16⟩
  | .hbm, ⟨27, _⟩ => ⟨S_, .f32⟩
  | .hbm, ⟨28, _⟩ => ⟨S8x128, .f32⟩
  | .hbm, ⟨29, _⟩ => ⟨S4096x1024, .f32⟩
  | .hbm, ⟨30, _⟩ => ⟨S4096x1024, .bf16⟩
  | .hbm, ⟨31, _⟩ => ⟨S1x1024, .f32⟩
  | .hbm, ⟨32, _⟩ => ⟨S4096x1024, .f32⟩
  | .hbm, ⟨33, _⟩ => ⟨S4096x3072, .bf16⟩
  | .hbm, ⟨34, _⟩ => ⟨S3x1024, .f32⟩
  | .hbm, ⟨35, _⟩ => ⟨S4096x1024, .f32⟩
  | .hbm, ⟨36, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S3072x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S8x128, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S3x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S528x1024, .f32⟩
  | .local _ .vmem, ⟨25, _⟩ => ⟨S528x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvRefIdeal.lean ====
abbrev S2x2048x1024 : Shape := ⟨3, ![2, 2048, 1024]⟩
abbrev S1024 : Shape := ⟨1, ![1024]⟩
abbrev S1024x3072 : Shape := ⟨2, ![1024, 3072]⟩
abbrev S3x1024 : Shape := ⟨2, ![3, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S2x2x1024 : Shape := ⟨3, ![2, 2, 1024]⟩
abbrev S2x2050x1024 : Shape := ⟨3, ![2, 2050, 1024]⟩

abbrev nBuf : Space → Nat
  | .hbm => 129
  | .vmem => 0
  | .smem => 0
  | _ => 0

abbrev hbmTy0_0 (i : Nat) : BufTy := match i % 128 with
  | 0 => ⟨S2x2048x1024, .f32⟩
  | 1 => ⟨S1024, .f32⟩
  | 2 => ⟨S1024x3072, .f32⟩
  | 3 => ⟨S3x1024, .f32⟩
  | 4 => ⟨S2x2048x1024, .f32⟩
  | 5 => ⟨S2x2048x1024, .f32⟩
  | 6 => ⟨S4096x1024, .f32⟩
  | 7 => ⟨S4096x1024, .f32⟩
  | 8 => ⟨S4096x1024, .f32⟩
  | 9 => ⟨S1x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S4096x1024, .f32⟩
  | 29 => ⟨S4096x3072, .f32⟩
  | 30 => ⟨S4096x1024, .f32⟩
  | 31 => ⟨S4096x1024, .f32⟩
  | 32 => ⟨S4096x1024, .f32⟩
  | 33 => ⟨S4096x1024, .f32⟩
  | 34 => ⟨S2x2048x1024, .f32⟩
  | 35 => ⟨S_, .f32⟩
  | 36 => ⟨S2x2x1024, .f32⟩
  | 37 => ⟨S2x2050x1024, .f32⟩
  | 38 => ⟨S_, .f32⟩
  | 39 => ⟨S2x2x1024, .f32⟩
  | 40 => ⟨S2x2048x1024, .f32⟩
  | 41 => ⟨S4096x1024, .f32⟩
  | 42 => ⟨S2x2048x1024, .f32⟩
  | 43 => ⟨S4096x1024, .f32⟩
  | 44 => ⟨S2x2048x1024, .f32⟩
  | 45 => ⟨S4096x1024, .f32⟩
  | 46 => ⟨S1x1024, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S1024, .f32⟩
  | 63 => ⟨S1x1024, .f32⟩
  | 64 => ⟨S4096x1024, .f32⟩
  | 65 => ⟨S4096x1024, .f32⟩
  | 66 => ⟨S_, .f32⟩
  | 67 => ⟨S3x1024, .f32⟩
  | 68 => ⟨S4096x1024, .f32⟩
  | 69 => ⟨S_, .f32⟩
  | 70 => ⟨S1024, .f32⟩
  | 71 => ⟨S1x1024, .f32⟩
  | 72 => ⟨S4096x1024, .f32⟩
  | 73 => ⟨S4096x1024, .f32⟩
  | 74 => ⟨S_, .f32⟩
  | 75 => ⟨S3x1024, .f32⟩
  | 76 => ⟨S3x1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S4096x1024, .f32⟩
  | 83 => ⟨S_, .f32⟩
  | 84 => ⟨S3x1024, .f32⟩
  | 85 => ⟨S3x1024, .f32⟩
  | 86 => ⟨S2x2048x1024, .f32⟩
  | 87 => ⟨S_, .f32⟩
  | 88 => ⟨S2x2050x1024, .f32⟩
  | 89 => ⟨S2x2048x1024, .f32⟩
  | 90 => ⟨S_, .f32⟩
  | 91 => ⟨S2x2050x1024, .f32⟩
  | 92 => ⟨S2x2050x1024, .f32⟩
  | 93 => ⟨S2x2048x1024, .f32⟩
  | 94 => ⟨S_, .f32⟩
  | 95 => ⟨S2x2050x1024, .f32⟩
  | 96 => ⟨S2x2050x1024, .f32⟩
  | 97 => ⟨S2x2x1024, .f32⟩
  | 98 => ⟨S2x2048x1024, .f32⟩
  | 99 => ⟨S4096x1024, .f32⟩
  | 100 => ⟨S4096x1024, .f32⟩
  | 101 => ⟨S4096x1024, .f32⟩
  | 102 => ⟨S4096x3072, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x3072, .bf16⟩
  | _ => ⟨S2x2048x1024, .f32⟩

abbrev hbmTy0_1 (i : Nat) : BufTy := match i % 128 with
  | 0 => ⟨S4096x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_16 : Ref sig .tc := ⟨.hbm, 117, rfl⟩
abbrev main_v94 : Ref sig .tc := ⟨.hbm, 118, rfl⟩
abbrev main_v95 : Ref sig .tc := ⟨.hbm, 119, rfl⟩
abbrev main_cst_17 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩

abbrev nD : Nat := 1
abbrev τ : Topo := Topo.v7x

variable {F : FTy → Type} [FloatOps F]
-- ==== FfnFwd.lean ====
abbrev S2x2048x1024 : Shape := ⟨3, ![2, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩

abbrev nBuf : Space → Nat
  | .hbm => 23
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S4096x1024, .bf16⟩
  | .hbm, ⟨13, _⟩ => ⟨S1024x1024, .bf16⟩
  | .hbm, ⟨14, _⟩ => ⟨S4096x1024, .f32⟩
  | .hbm, ⟨15, _⟩ => ⟨S1x1024, .f32⟩
  | .hbm, ⟨16, _⟩ => ⟨S2816x1024, .bf16⟩
  | .hbm, ⟨17, _⟩ => ⟨S4096x1024, .f32⟩
  | .hbm, ⟨18, _⟩ => ⟨S4096x1024, .f32⟩
  | .hbm, ⟨19, _⟩ => ⟨S4096x2816, .bf16⟩
  | .hbm, ⟨20, _⟩ => ⟨S4096x2816, .bf16⟩
  | .hbm, ⟨21, _⟩ => ⟨S4096x2816, .bf16⟩
  | .hbm, ⟨22, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnFwdRefIdeal.lean ====
abbrev S2x2048x1024 : Shape := ⟨3, ![2, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S4096x2816, .bf16⟩
  | .hbm, ⟨42, _⟩ => ⟨S4096x2816, .bf16⟩
  | .hbm, ⟨43, _⟩ => ⟨S4096x2816, .bf16⟩
  | .hbm, ⟨44, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.Real.lean ====
/- Finite extended reals: at the ideal instance a float is an extended real, and the gradient formulas of this proof are
   identities of the real field (they distribute products over sums). Each lemma here moves one operation on extended reals
   that come from real numbers to the operation on the real numbers. -/
module

public import Idealize.ShloMosaic.PureOps.Ideal.Laws
public import Idealize.ShloMosaic.Lib.Pointwise

@[expose] public section

set_option maxRecDepth 16384

noncomputable section

namespace Cert.Lift

open Idealize.ShloMosaic

/-- The sum of finitely many real numbers, taken among the extended reals, is their real sum. -/
theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem neg_coe (a : ℝ) : -(a : EReal) = ((-a : ℝ) : EReal) := (EReal.coe_neg a).symm

theorem one_coe : (1 : EReal) = ((1 : ℝ) : EReal) := rfl

theorem zero_coe : (0 : EReal) = ((0 : ℝ) : EReal) := rfl

theorem div_coe' {a b : ℝ} (hb : b ≠ 0) : Ideal.div (a : EReal) (b : EReal) = ((a / b : ℝ) : EReal) := by
  rw [Ideal.div_coe hb, mul_coe, mul_one_div]

theorem rsqrt_coe' {a : ℝ} (ha : 0 < a) : Ideal.rsqrt (a : EReal) = (((Real.sqrt a)⁻¹ : ℝ) : EReal) := by
  rw [Ideal.rsqrt_coe, if_neg ha.le.not_gt, if_neg ha.ne']

/-- The number of columns of the residual stream, as the programs print it. -/
theorem f32_1024 : Ideal.ofBits .f32 0x44800000#32 = ((1024 : ℝ) : EReal) := by
  simp [Ideal.ofBits, Ideal.ieee, -EReal.coe_mul]; norm_num

theorem f32_one : Ideal.ofBits .f32 0x3F800000#32 = ((1 : ℝ) : EReal) := by
  simp [Ideal.ofBits, Ideal.ieee, -EReal.coe_mul]; norm_num

theorem f32_neg_half : Ideal.ofBits .f32 0xBF000000#32 = ((-(1 / 2) : ℝ) : EReal) := by
  simp [Ideal.ofBits, Ideal.ieee, -EReal.coe_mul, -EReal.coe_neg]; norm_num

/-- The normalisation's epsilon. -/
def eps : ℝ := (8388608 + 407485 : ℕ) * (2 : ℝ) ^ (-43 : ℤ)

theorem eps_pos : 0 < eps := by unfold eps; positivity

theorem f32_eps : Ideal.ofBits .f32 0x358637BD#32 = ((eps : ℝ) : EReal) := by
  simp [Ideal.ofBits, Ideal.ieee, eps, -EReal.coe_mul]

/-- An array whose absolute values all lie below infinity holds real numbers. -/
theorem coe_toReal_of_abs_lt {x : EReal} (h : max x (-x) < ⊤) : ((x.toReal : ℝ) : EReal) = x := by
  refine EReal.coe_toReal (fun e => ?_) fun e => ?_
  · subst e; simp at h
  · subst e; simp at h

end Cert.Lift

end
-- ==== Proof.Norm.lean ====
/- RMS normalisation of one row and its gradient, over the real numbers. -/
module

public import proofs.«01_k».proof.Proof.Real

@[expose] public section

set_option maxRecDepth 16384

noncomputable section

namespace Cert.Norm

open Cert.Lift

/-- The mean square of a row plus the normalisation's epsilon. -/
def ms (x : Fin 1024 → ℝ) : ℝ := (∑ k, x k * x k) / 1024 + eps

/-- One over the root of the mean square. -/
def rs (x : Fin 1024 → ℝ) : ℝ := (Real.sqrt (ms x))⁻¹

theorem ms_pos (x : Fin 1024 → ℝ) : 0 < ms x :=
  add_pos_of_nonneg_of_pos (div_nonneg (Finset.sum_nonneg fun k _ => mul_self_nonneg (x k)) (by norm_num)) eps_pos

theorem rs_mul_rs (x : Fin 1024 → ℝ) : rs x * rs x = 1 / ms x := by
  rw [rs, ← mul_inv, Real.mul_self_sqrt (ms_pos x).le, one_div]

/-- The gradient of a normalised row for its input, `w` being the gradient of the row `x · rs x`: the form in which the
    row's mean of products is taken once. -/
def grad (x w : Fin 1024 → ℝ) (k : Fin 1024) : ℝ :=
  rs x * (w k - x k * rs x * ((∑ l, w l * (x l * rs x)) / 1024))

/-- The factor by which differentiating the mean square multiplies each entry of the row. -/
def coef (x w : Fin 1024 → ℝ) : ℝ := (∑ l, x l * w l) * (-(1 / 2) * (rs x / ms x)) / 1024

/-- The same gradient as differentiation by the product rule writes it: through the product, and twice through the square
    under the mean. -/
theorem grad_eq (x w : Fin 1024 → ℝ) (k : Fin 1024) :
    w k * rs x + x k * coef x w + coef x w * x k = grad x w k := by
  have hs : (∑ l, w l * (x l * rs x)) = (∑ l, x l * w l) * rs x := by
    rw [Finset.sum_mul]; exact Finset.sum_congr rfl fun l _ => by ring
  have hr : rs x / ms x = rs x * (rs x * rs x) := by rw [rs_mul_rs]; ring
  rw [grad, coef, hs, hr]; ring

end Cert.Norm

end
-- ==== Proof.FfnReal.lean ====
/- The gradients of one layer's SwiGLU block over the real numbers: `x` the residual stream ahead of the block, one row per
   token; `dx` the gradient of the stream behind it. -/
module

public import proofs.«01_k».proof.Proof.Norm

@[expose] public section

set_option maxRecDepth 16384

noncomputable section

namespace Cert.Swiglu

open Cert.Lift

/-- The logistic function. -/
def sg (a : ℝ) : ℝ := (1 + Real.exp (-a))⁻¹

/-- The derivative of `a · sg a`, in the form in which the logistic function is factored out. -/
theorem silu_grad (a c : ℝ) : c * sg a + c * a * (sg a * (1 - sg a)) = c * (sg a * (1 + a * (1 - sg a))) := by ring

/-- The logistic function's derivative, from the exponential's. -/
theorem sg_grad (a : ℝ) : Real.exp (-a) / ((1 + Real.exp (-a)) * (1 + Real.exp (-a))) = sg a * (1 - sg a) := by
  have h : (1 + Real.exp (-a)) ≠ 0 := by positivity
  unfold sg; field_simp; ring

variable (X : Fin 4096 → Fin 1024 → ℝ) (G : Fin 1024 → ℝ) (WO : Fin 1024 → Fin 1024 → ℝ)
  (WG WU : Fin 1024 → Fin 2816 → ℝ) (WD : Fin 2816 → Fin 1024 → ℝ) (DX : Fin 4096 → Fin 1024 → ℝ)

/-- The normalised token, before the gain. -/
def xhat (t : Fin 4096) (k : Fin 1024) : ℝ := X t k * Norm.rs (X t)

/-- A product of the normalised token with one of the two up-projections. -/
def pre (W : Fin 1024 → Fin 2816 → ℝ) (t : Fin 4096) (j : Fin 2816) : ℝ := ∑ k, xhat X t k * G k * W k j

/-- The gradient of the block's hidden activation. -/
def da (t : Fin 4096) (j : Fin 2816) : ℝ := ∑ k, DX t k * WD j k

/-- The gradient of the gate's pre-activation. -/
def dgate (t : Fin 4096) (j : Fin 2816) : ℝ :=
  da WD DX t j * pre X G WU t j * (sg (pre X G WG t j) * (1 + pre X G WG t j * (1 - sg (pre X G WG t j))))

/-- The gradient of the other factor. -/
def dup (t : Fin 4096) (j : Fin 2816) : ℝ := da WD DX t j * pre X G WG t j * sg (pre X G WG t j)

/-- The gradient of the normalised token after the gain. -/
def dh (t : Fin 4096) (k : Fin 1024) : ℝ :=
  (∑ j, dgate X G WG WU WD DX t j * WG k j) + ∑ j, dup X G WG WD DX t j * WU k j

/-- The gradient of the gain. -/
def dgain (k : Fin 1024) : ℝ := ∑ t, dh X G WG WU WD DX t k * xhat X t k

/-- The gradient of the residual stream ahead of the block. -/
def dstream (t : Fin 4096) (k : Fin 1024) : ℝ :=
  DX t k + Norm.grad (X t) (fun l => dh X G WG WU WD DX t l * G l) k

/-- The gradient of what the mixer ahead of the block put through its output projection. -/
def dmix (t : Fin 4096) (k : Fin 1024) : ℝ := ∑ l, dstream X G WG WU WD DX t l * WO k l

end Cert.Swiglu

end
-- ==== Proof.FfnIn.lean ====
/- The arguments of the SwiGLU block's gradient as real arrays, and their rows and matrices. -/
module

public import proofs.«01_k».proof.Proof.FfnReal

@[expose] public section

set_option maxRecDepth 16384

noncomputable section

namespace Cert.Swiglu

open Cert.Lift
open Idealize.ShloMosaic

/-- A real array as an array of extended reals. -/
def up {s : Shape} (a : s.Idx → ℝ) : s.Idx → EReal := fun i => ((a i : ℝ) : EReal)

theorem up_apply {s : Shape} (a : s.Idx → ℝ) (i : s.Idx) : up a i = ((a i : ℝ) : EReal) := rfl

/-- A rank-2 array as a matrix. -/
def mat {n m : ℕ} (a : (⟨2, ![n, m]⟩ : Shape).Idx → ℝ) (k : Fin n) (j : Fin m) : ℝ := a (ix2 k j)

/-- A rank-1 array as a vector. -/
def vec {n : ℕ} (a : (⟨1, ![n]⟩ : Shape).Idx → ℝ) (k : Fin n) : ℝ := a (ix1 k)

/-- The activations' rows, one per token: sequence after sequence. -/
def tok (a : (⟨3, ![2, 2048, 1024]⟩ : Shape).Idx → ℝ) (t : Fin 4096) (k : Fin 1024) : ℝ :=
  a (ix3 (⟨t.val / 2048, by omega⟩ : Fin 2) (⟨t.val % 2048, by omega⟩ : Fin 2048) k)

theorem up_mat {n m : ℕ} (a : (⟨2, ![n, m]⟩ : Shape).Idx → ℝ) (i : (⟨2, ![n, m]⟩ : Shape).Idx) :
    up a i = ((mat a (i 0) (i 1) : ℝ) : EReal) := by
  exact congrArg (fun j => ((a j : ℝ) : EReal)) (eq_ix2 i)

theorem up_vec {n : ℕ} (a : (⟨1, ![n]⟩ : Shape).Idx → ℝ) (i : (⟨1, ![n]⟩ : Shape).Idx) :
    up a i = ((vec a (i 0) : ℝ) : EReal) := by
  exact congrArg (fun j => ((a j : ℝ) : EReal)) (eq_ix1 i)

/-- An entry of the activations, by the position of its row among all tokens. -/
theorem up_tok (a : (⟨3, ![2, 2048, 1024]⟩ : Shape).Idx → ℝ) (i : (⟨3, ![2, 2048, 1024]⟩ : Shape).Idx) (t : Fin 4096)
    (k : Fin 1024) (h0 : (i 0).val = t.val / 2048) (h1 : (i 1).val = t.val % 2048) (h2 : (i 2).val = k.val) :
    up a i = ((tok a t k : ℝ) : EReal) := by
  have e : i = ix3 (⟨t.val / 2048, by omega⟩ : Fin 2) (⟨t.val % 2048, by omega⟩ : Fin 2048) k := by
    funext d
    match d with
    | ⟨0, _⟩ => exact Fin.ext h0
    | ⟨1, _⟩ => exact Fin.ext h1
    | ⟨2, _⟩ => exact Fin.ext h2
  exact congrArg (fun j => ((a j : ℝ) : EReal)) e

/-- The arguments: the mixer's output, the residual stream ahead of the mixer, the gain, the mixer's output projection, the
    block's three projections, and the gradient of the stream behind the block. -/
structure Args where
  y : (⟨3, ![2, 2048, 1024]⟩ : Shape).Idx → ℝ
  xin : (⟨3, ![2, 2048, 1024]⟩ : Shape).Idx → ℝ
  g : (⟨1, ![1024]⟩ : Shape).Idx → ℝ
  wo : (⟨2, ![1024, 1024]⟩ : Shape).Idx → ℝ
  wg : (⟨2, ![1024, 2816]⟩ : Shape).Idx → ℝ
  wu : (⟨2, ![1024, 2816]⟩ : Shape).Idx → ℝ
  wd : (⟨2, ![2816, 1024]⟩ : Shape).Idx → ℝ
  dx : (⟨3, ![2, 2048, 1024]⟩ : Shape).Idx → ℝ

namespace Args

variable (a : Args)

/-- The residual stream ahead of the block. -/
def X (t : Fin 4096) (k : Fin 1024) : ℝ := tok a.xin t k + ∑ l, tok a.y t l * mat a.wo l k

def gate (t : Fin 4096) (j : Fin 2816) : ℝ := pre a.X (vec a.g) (mat a.wg) t j
def lin (t : Fin 4096) (j : Fin 2816) : ℝ := pre a.X (vec a.g) (mat a.wu) t j
def da (t : Fin 4096) (j : Fin 2816) : ℝ := Swiglu.da (mat a.wd) (tok a.dx) t j
def dgate (t : Fin 4096) (j : Fin 2816) : ℝ :=
  Swiglu.dgate a.X (vec a.g) (mat a.wg) (mat a.wu) (mat a.wd) (tok a.dx) t j
def dup (t : Fin 4096) (j : Fin 2816) : ℝ := Swiglu.dup a.X (vec a.g) (mat a.wg) (mat a.wd) (tok a.dx) t j
def dh (t : Fin 4096) (k : Fin 1024) : ℝ :=
  Swiglu.dh a.X (vec a.g) (mat a.wg) (mat a.wu) (mat a.wd) (tok a.dx) t k
def dgain (k : Fin 1024) : ℝ := Swiglu.dgain a.X (vec a.g) (mat a.wg) (mat a.wu) (mat a.wd) (tok a.dx) k
def dstream (t : Fin 4096) (k : Fin 1024) : ℝ :=
  Swiglu.dstream a.X (vec a.g) (mat a.wg) (mat a.wu) (mat a.wd) (tok a.dx) t k
def dmix (t : Fin 4096) (k : Fin 1024) : ℝ :=
  Swiglu.dmix a.X (vec a.g) (mat a.wo) (mat a.wg) (mat a.wu) (mat a.wd) (tok a.dx) t k

theorem dgate_eq (t : Fin 4096) (j : Fin 2816) :
    a.dgate t j = a.da t j * a.lin t j * (sg (a.gate t j) * (1 + a.gate t j * (1 - sg (a.gate t j)))) := rfl

/-- The gate's gradient as the product rule writes it. -/
theorem dgate_of_product (t : Fin 4096) (j : Fin 2816) :
    a.da t j * a.lin t j * sg (a.gate t j)
      + a.gate t j * (a.da t j * a.lin t j) * (sg (a.gate t j) * (1 - sg (a.gate t j))) = a.dgate t j := by
  rw [dgate_eq]; ring

theorem dup_of_product (t : Fin 4096) (j : Fin 2816) : a.gate t j * sg (a.gate t j) * a.da t j = a.dup t j := by
  show _ = a.da t j * a.gate t j * sg (a.gate t j)
  ring

theorem dup_eq (t : Fin 4096) (j : Fin 2816) : a.dup t j = a.da t j * a.gate t j * sg (a.gate t j) := rfl

theorem dh_eq (t : Fin 4096) (k : Fin 1024) :
    a.dh t k = (∑ j, a.dgate t j * mat a.wg k j) + ∑ j, a.dup t j * mat a.wu k j := rfl

theorem dh_of_sums (t : Fin 4096) (k : Fin 1024) :
    (∑ j, a.dup t j * mat a.wu k j) + ∑ j, a.dgate t j * mat a.wg k j = a.dh t k := by
  rw [dh_eq, add_comm]

theorem dgain_eq (k : Fin 1024) : a.dgain k = ∑ t, a.dh t k * xhat a.X t k := rfl

theorem dstream_eq (t : Fin 4096) (k : Fin 1024) :
    a.dstream t k = tok a.dx t k + Norm.grad (a.X t) (fun l => a.dh t l * vec a.g l) k := rfl

/-- The stream's gradient with the normalisation's gradient as the product rule writes it. -/
theorem dstream_of_product (t : Fin 4096) (k : Fin 1024) :
    tok a.dx t k + (a.dh t k * vec a.g k * Norm.rs (a.X t) + a.X t k * Norm.coef (a.X t) (fun l => a.dh t l * vec a.g l)
      + Norm.coef (a.X t) (fun l => a.dh t l * vec a.g l) * a.X t k) = a.dstream t k := by
  rw [dstream_eq, ← Norm.grad_eq]

theorem dmix_eq (t : Fin 4096) (k : Fin 1024) : a.dmix t k = ∑ l, a.dstream t l * mat a.wo k l := rfl

end Args

end Cert.Swiglu

end
-- ==== Proof.Finite.lean ====
/- Arrays whose absolute values lie below infinity hold real numbers. -/
module

public import proofs.«01_k».proof.Proof.FfnIn

@[expose] public section

set_option maxRecDepth 16384

noncomputable section

namespace Cert.Lift

open Idealize.ShloMosaic Cert.Swiglu

theorem f32_inf : Ideal.ofBits .f32 0x7F800000#32 = (⊤ : EReal) := by
  simp [Ideal.ofBits, Ideal.ieee]

theorem real_of_finite {s : Shape} {v : FVec Ideal s .f32} (hb : (⟨0, ![]⟩ : Shape).BroadcastsInDim s ![])
    (h : cmpf .olt (Host.absf v) (broadcastInDim s ![] hb (constant ⟨0, ![]⟩ .f32 0x7F800000#32)) = fun _ => 1#1) :
    v = up fun i => (v i).toReal := by
  funext i
  have e : Ideal.cmp .olt (max (v i) (-(v i))) (Ideal.ofBits .f32 0x7F800000#32) = 1#1 := congrFun h i
  rw [f32_inf] at e
  refine (coe_toReal_of_abs_lt ?_).symm
  by_contra hn
  simp [Ideal.cmp, hn] at e

end Cert.Lift

end
-- ==== Proof.Blocks.lean ====
/- Rank-2 blocks entry by entry: what a block of extended reals holds, and what the rows and columns loaded from it hold. -/
module

public import proofs.«01_k».proof.Proof.Real

@[expose] public section

set_option maxRecDepth 16384

noncomputable section

namespace Cert.Lift

open Idealize.ShloMosaic

/-- A rank-2 block holds the extended reals of `f`. -/
def Is {n m : ℕ} (v : (⟨2, ![n, m]⟩ : Shape).Idx → EReal) (f : Fin n → Fin m → EReal) : Prop :=
  ∀ (r : Fin n) (l : Fin m), v (ix2 r l) = f r l

/-- A rank-2 block holds the real numbers of `f`. -/
def Holds {n m : ℕ} (v : (⟨2, ![n, m]⟩ : Shape).Idx → EReal) (f : Fin n → Fin m → ℝ) : Prop :=
  ∀ (r : Fin n) (l : Fin m), v (ix2 r l) = ((f r l : ℝ) : EReal)

/-- A sum of products of real numbers, entry by entry. -/
theorem sum_mul {n : ℕ} {f g : Fin n → EReal} {p q : Fin n → ℝ} (hf : ∀ k, f k = ((p k : ℝ) : EReal))
    (hg : ∀ k, g k = ((q k : ℝ) : EReal)) : ∑ k, f k * g k = ((∑ k, p k * q k : ℝ) : EReal) := by
  rw [← sum_coe]
  exact Finset.sum_congr rfl fun k _ => by rw [hf, hg, mul_coe]

/-- A float sum of real numbers that starts at zero. -/
theorem zero_add_sum {n : ℕ} {f : Fin n → EReal} {p : Fin n → ℝ} (hf : ∀ k, f k = ((p k : ℝ) : EReal)) :
    Ideal.ofBits .f32 0x00000000#32 + ∑ k, f k = ((∑ k, p k : ℝ) : EReal) := by
  rw [Ideal.ofBits_zero_f32, zero_add, ← sum_coe]
  exact Finset.sum_congr rfl fun k _ => hf k

/-- The indices `o, o + 1, …` of a larger range. -/
def from' {n N : ℕ} (o : ℕ) (h : o + n ≤ N) (j : Fin n) : Fin N := ⟨o + j.val, by omega⟩

/-- A rectangle loaded from a block. -/
theorem Is.part {n m n' m' o o' : ℕ} {x : (⟨2, ![n, m]⟩ : Shape).Idx → EReal} {f} (hx : Is x f)
    (inb : ∀ a, (![o, o'] : Fin 2 → ℕ) a + (![n', m'] : Fin 2 → ℕ) a ≤ (⟨2, ![n, m]⟩ : Shape).size a)
    (hn : o + n' ≤ n) (hm : o' + m' ≤ m) : Is (n := n') (m := m')
      (fun y => x ((Rect.unit (s := ⟨2, ![n, m]⟩) ![o, o'] ![n', m'] inb).idx y))
      fun r l => f (from' o hn r) (from' o' hm l) := by
  intro r l
  refine Eq.trans ?_ (hx (from' o hn r) (from' o' hm l))
  refine congrArg x (funext fun d => Fin.ext ?_)
  match d with
  | ⟨0, _⟩ => exact congrArg (o + ·) (Nat.one_mul r.val)
  | ⟨1, _⟩ => exact congrArg (o' + ·) (Nat.one_mul l.val)

/-- Rows loaded from a block. -/
theorem Is.rows {n m n' o : ℕ} {x : (⟨2, ![n, m]⟩ : Shape).Idx → EReal} {f} (hx : Is x f)
    (inb : ∀ a, (![o, 0] : Fin 2 → ℕ) a + (![n', m] : Fin 2 → ℕ) a ≤ (⟨2, ![n, m]⟩ : Shape).size a)
    (hn : o + n' ≤ n) : Is (n := n') (m := m)
      (fun y => x ((Rect.unit (s := ⟨2, ![n, m]⟩) ![o, 0] ![n', m] inb).idx y)) fun r l => f (from' o hn r) l := by
  intro r l
  refine (hx.part inb hn (by omega) r l).trans (congrArg (f _) (Fin.ext (Nat.zero_add _)))

/-- Columns loaded from a block. -/
theorem Is.cols {n m m' o : ℕ} {x : (⟨2, ![n, m]⟩ : Shape).Idx → EReal} {f} (hx : Is x f)
    (inb : ∀ a, (![0, o] : Fin 2 → ℕ) a + (![n, m'] : Fin 2 → ℕ) a ≤ (⟨2, ![n, m]⟩ : Shape).size a)
    (hm : o + m' ≤ m) : Is (n := n) (m := m')
      (fun y => x ((Rect.unit (s := ⟨2, ![n, m]⟩) ![0, o] ![n, m'] inb).idx y)) fun r l => f r (from' o hm l) := by
  intro r l
  refine (hx.part inb (by omega) hm r l).trans (congrArg (fun i => f i _) (Fin.ext (Nat.zero_add _)))

/-- Rows loaded from a real block. -/
theorem Holds.rows {n m n' o : ℕ} {x : (⟨2, ![n, m]⟩ : Shape).Idx → EReal} {f : Fin n → Fin m → ℝ} (hx : Holds x f)
    (inb : ∀ a, (![o, 0] : Fin 2 → ℕ) a + (![n', m] : Fin 2 → ℕ) a ≤ (⟨2, ![n, m]⟩ : Shape).size a)
    (hn : o + n' ≤ n) : Holds (n := n') (m := m)
      (fun y => x ((Rect.unit (s := ⟨2, ![n, m]⟩) ![o, 0] ![n', m] inb).idx y)) fun r l => f (from' o hn r) l :=
  Is.rows (f := fun r l => ((f r l : ℝ) : EReal)) hx inb hn

/-- Columns loaded from a real block. -/
theorem Holds.cols {n m m' o : ℕ} {x : (⟨2, ![n, m]⟩ : Shape).Idx → EReal} {f : Fin n → Fin m → ℝ} (hx : Holds x f)
    (inb : ∀ a, (![0, o] : Fin 2 → ℕ) a + (![n, m'] : Fin 2 → ℕ) a ≤ (⟨2, ![n, m]⟩ : Shape).size a)
    (hm : o + m' ≤ m) : Holds (n := n) (m := m')
      (fun y => x ((Rect.unit (s := ⟨2, ![n, m]⟩) ![0, o] ![n, m'] inb).idx y)) fun r l => f r (from' o hm l) :=
  Is.cols (f := fun r l => ((f r l : ℝ) : EReal)) hx inb hm

/-- A rectangle loaded from a real block. -/
theorem Holds.part {n m n' m' o o' : ℕ} {x : (⟨2, ![n, m]⟩ : Shape).Idx → EReal} {f : Fin n → Fin m → ℝ} (hx : Holds x f)
    (inb : ∀ a, (![o, o'] : Fin 2 → ℕ) a + (![n', m'] : Fin 2 → ℕ) a ≤ (⟨2, ![n, m]⟩ : Shape).size a)
    (hn : o + n' ≤ n) (hm : o' + m' ≤ m) : Holds (n := n') (m := m')
      (fun y => x ((Rect.unit (s := ⟨2, ![n, m]⟩) ![o, o'] ![n', m'] inb).idx y))
      fun r l => f (from' o hn r) (from' o' hm l) :=
  Is.part (f := fun r l => ((f r l : ℝ) : EReal)) hx inb hn hm

end Cert.Lift

end
-- ==== Proof.FfnBody.lean ====
/- The kernel's arithmetic on one block of tokens: on blocks of real numbers, what each of its values is. -/
module

public import proofs.«01_k».proof.Proof.FfnIn
public import proofs.«01_k».proof.Proof.Blocks
public import proofs.«01_k».proof.Proof.Gen.FfnIdeal.Skeleton
public import Idealize.ShloMosaic.Lib.Pointwise

@[expose] public section

set_option maxRecDepth 16384

noncomputable section

namespace Cert.FfnIdeal.Body

open Idealize.ShloMosaic Idealize.SL.Sem
open Cert.FfnIdeal Cert.FfnIdeal.Gen Cert.Lift Cert.Swiglu

/-- The gradient of the gate, of the other factor, for one entry. -/
def gg (a g u : ℝ) : ℝ := a * u * (sg g * (1 + g * (1 - sg g)))
def gu (a g : ℝ) : ℝ := a * g * sg g

theorem logistic_real (a : ℝ) : Ideal.logistic (a : EReal) = ((sg a : ℝ) : EReal) := by
  rw [Ideal.logistic_coe]; rfl

theorem gg_real (a g u : ℝ) : (a : EReal) * (u : EReal) * (Ideal.logistic (g : EReal)
    * (1 + (g : EReal) * (1 - Ideal.logistic (g : EReal)))) = ((gg a g u : ℝ) : EReal) := by
  rw [logistic_real, one_coe]; simp only [mul_coe, sub_coe, add_coe]; rfl

theorem gu_real (a g : ℝ) : (a : EReal) * (g : EReal) * Ideal.logistic (g : EReal) = ((gu a g : ℝ) : EReal) := by
  rw [logistic_real]; simp only [mul_coe]; rfl

section
variable {v3 : Vec Ideal S256x1024 .f32} {D : Fin 256 → Fin 1024 → ℝ} (h3 : Holds v3 D)
include h3

theorem pay3 : Holds (k0_pay3 v3) D := by
  intro r l
  pointwise [k0_pay3]
  exact h3 r l

theorem pay4 : Holds (k0_pay4 v3) D := by
  intro r l
  pointwise [k0_pay4, k0_pay3]
  exact h3 r l

/-! The first 1024 hidden columns. -/

variable {v7 : Vec Ideal S1024x1024 .bf16} {v10 v13 : Vec Ideal S256x1024 .bf16} {W : Fin 1024 → Fin 1024 → ℝ}
  {P U : Fin 256 → Fin 1024 → ℝ} (h7 : Holds v7 W) (h10 : Holds v10 P) (h13 : Holds v13 U)

include h7 in
theorem pay5 : Holds (k0_pay5 v3 v7) fun r j => ∑ k, D r k * W j k := by
  intro r l
  pointwise [k0_pay5, k0_pay4, k0_pay3]
  exact sum_mul (fun k => h3 _ _) fun k => h7 _ _

include h7 h10 h13 in
theorem pay8 : Holds (k0_pay8 v3 v7 v10 v13) fun r j => gg (∑ k, D r k * W j k) (P r j) (U r j) := by
  intro r l
  have h := pay5 h3 h7 r l
  pointwise [k0_pay8, k0_pay7, k0_pay6]
  rw [h, h10, h13]
  exact gg_real _ _ _

include h7 h10 in
theorem pay9 : Holds (k0_pay9 v3 v7 v10) fun r j => gu (∑ k, D r k * W j k) (P r j) := by
  intro r l
  have h := pay5 h3 h7 r l
  pointwise [k0_pay9, k0_pay7, k0_pay6]
  rw [h, h10]
  exact gu_real _ _
end

/-! The next 1024 hidden columns. -/
section
variable {v5 : FVec Ideal S256x1024 .bf16} {v38 : Vec Ideal S1024x1024 .bf16} {v41 v44 : Vec Ideal S256x1024 .bf16}
  {D : Fin 256 → Fin 1024 → ℝ} {W : Fin 1024 → Fin 1024 → ℝ} {P U : Fin 256 → Fin 1024 → ℝ} (h5 : Holds v5 D)
  (h38 : Holds v38 W) (h41 : Holds v41 P) (h44 : Holds v44 U)
include h5 h38

theorem pay12 : Holds (k0_pay12 v5 v38) fun r j => ∑ k, D r k * W j k := by
  intro r l
  pointwise [k0_pay12]
  exact sum_mul (fun k => h5 _ _) fun k => h38 _ _

include h41

include h44 in
theorem pay15 : Holds (k0_pay15 v5 v38 v41 v44) fun r j => gg (∑ k, D r k * W j k) (P r j) (U r j) := by
  intro r l
  have h := pay12 h5 h38 r l
  pointwise [k0_pay15, k0_pay14, k0_pay13]
  rw [h, h41, h44]
  exact gg_real _ _ _

theorem pay16 : Holds (k0_pay16 v5 v38 v41) fun r j => gu (∑ k, D r k * W j k) (P r j) := by
  intro r l
  have h := pay12 h5 h38 r l
  pointwise [k0_pay16, k0_pay14, k0_pay13]
  rw [h, h41]
  exact gu_real _ _
end

/-! The last 768 hidden columns. -/
section
variable {v5 : FVec Ideal S256x1024 .bf16} {v70 : Vec Ideal S768x1024 .bf16} {v73 v76 : Vec Ideal S256x768 .bf16}
  {D : Fin 256 → Fin 1024 → ℝ} {W : Fin 768 → Fin 1024 → ℝ} {P U : Fin 256 → Fin 768 → ℝ} (h5 : Holds v5 D)
  (h70 : Holds v70 W) (h73 : Holds v73 P) (h76 : Holds v76 U)
include h5 h70

theorem pay18 : Holds (k0_pay18 v5 v70) fun r j => ∑ k, D r k * W j k := by
  intro r l
  pointwise [k0_pay18]
  exact sum_mul (fun k => h5 _ _) fun k => h70 _ _

include h73

include h76 in
theorem pay21 : Holds (k0_pay21 v5 v70 v73 v76) fun r j => gg (∑ k, D r k * W j k) (P r j) (U r j) := by
  intro r l
  have h := pay18 h5 h70 r l
  pointwise [k0_pay21, k0_pay20, k0_pay19]
  rw [h, h73, h76]
  exact gg_real _ _ _

theorem pay22 : Holds (k0_pay22 v5 v70 v73) fun r j => gu (∑ k, D r k * W j k) (P r j) := by
  intro r l
  have h := pay18 h5 h70 r l
  pointwise [k0_pay22, k0_pay20, k0_pay19]
  rw [h, h73]
  exact gu_real _ _
end

/-! The products with the two up-projections' transposes, one part of the hidden columns after the other. -/

theorem pay10 {v31 : Vec Ideal S1024x1024 .bf16} {A} (h : Holds v31 A) : Holds (k0_pay10 v31) A := by
  intro r l
  pointwise [k0_pay10]
  exact h r l

theorem pay11 {v25 v28 : FVec Ideal S256x1024 .bf16} {v32 : FVec Ideal S1024x1024 .bf16} {v34 : Vec Ideal S1024x1024 .bf16}
    {E E' A B} (h25 : Holds v25 E) (h28 : Holds v28 E') (h32 : Holds v32 A) (h34 : Holds v34 B) :
    Holds (k0_pay11 v25 v28 v32 (constant S256x1024 .f32 0x00000000#32) v34)
      fun r l => (∑ j, E r j * A j l) + ∑ j, E' r j * B j l := by
  intro r l
  pointwise [k0_pay11]
  rw [sum_mul (fun k => h25 _ _) fun k => h32 _ _, sum_mul (fun k => h28 _ _) fun k => h34 _ _, add_coe]

theorem pay17 {v5 : FVec Ideal S256x1024 .bf16} {v38 v62 v65 : Vec Ideal S1024x1024 .bf16}
    {v41 v44 : Vec Ideal S256x1024 .bf16} {E E' A B}
    (hE : Holds (k0_pay15 v5 v38 v41 v44) E) (hE' : Holds (k0_pay16 v5 v38 v41) E') (h62 : Holds v62 A) (h65 : Holds v65 B) :
    Holds (k0_pay17 v5 v38 v41 v44 v62 v65) fun r l => (∑ j, E r j * A j l) + ∑ j, E' r j * B j l := by
  intro r l
  pointwise [k0_pay17]
  rw [sum_mul (fun k => hE _ _) fun k => h62 _ _, sum_mul (fun k => hE' _ _) fun k => h65 _ _, add_coe]

theorem pay23 {v5 : FVec Ideal S256x1024 .bf16} {v37 v68 : FVec Ideal S256x1024 .f32} {v70 v94 v97 : Vec Ideal S768x1024 .bf16}
    {v73 v76 : Vec Ideal S256x768 .bf16} {C C' E E' A B} (h37 : Holds v37 C) (h68 : Holds v68 C')
    (hE : Holds (k0_pay21 v5 v70 v73 v76) E) (hE' : Holds (k0_pay22 v5 v70 v73) E') (h94 : Holds v94 A) (h97 : Holds v97 B) :
    Holds (k0_pay23 v5 v37 v68 v70 v73 v76 v94 v97)
      fun r l => C r l + C' r l + ((∑ j, E r j * A j l) + ∑ j, E' r j * B j l) := by
  intro r l
  pointwise [k0_pay23]
  rw [sum_mul (fun k => hE _ _) fun k => h94 _ _, sum_mul (fun k => hE' _ _) fun k => h97 _ _, h37, h68, add_coe, add_coe, add_coe]

/-! The normalisation's gradient and the product with the output projection's transpose. -/

section
variable {v108 : Vec Ideal S256x1024 .f32} {X : Fin 256 → Fin 1024 → ℝ} (hX : Holds v108 X)
include hX

theorem pay26 (r : Fin 256) : k0_pay26 v108 (ix2 r 0) = ((Norm.rs (X r) : ℝ) : EReal) := by
  pointwise [k0_pay26, k0_pay25]
  rw [sum_mul (fun k => hX _ _) fun k => hX _ _]
  rw [f32_1024, f32_eps, div_coe' (by norm_num), add_coe]
  exact rsqrt_coe' (Norm.ms_pos _)

theorem pay27 : Holds (k0_pay27 v108) fun r l => X r l * Norm.rs (X r) := by
  intro r l
  have h := pay26 hX r
  pointwise [k0_pay27, k0_pay25]
  rw [h, hX, mul_coe]

variable {v101 : FVec Ideal S256x1024 .f32} {H : Fin 256 → Fin 1024 → ℝ} (hH : Holds v101 H)
include hH

theorem pay28 (v120 : Vec Ideal S1x1024 .f32) (l : Fin 1024) :
    k0_pay28 v101 v108 v120 (ix2 0 l) = v120 (ix2 0 l) + ((∑ r, H r l * (X r l * Norm.rs (X r)) : ℝ) : EReal) := by
  have h := pay27 hX
  pointwise [k0_pay28]
  rw [sum_mul (fun k => hH _ _) fun k => h _ _]

variable {v4 : FVec Ideal S256x1024 .f32} {v103 : FVec Ideal S1x1024 .f32} {v104 : Vec Ideal S1x1 .f32}
  {D : Fin 256 → Fin 1024 → ℝ} {G : Fin 1024 → ℝ} (h4 : Holds v4 D)
  (h103 : ∀ l, v103 (ix2 0 l) = ((G l : ℝ) : EReal)) (h104 : v104 (ix2 0 0) = 0)
include h4 h103 h104

theorem pay29 : Holds (k0_pay29 v4 v101 v103 v104 v108) fun r l => D r l + Norm.grad (X r) (fun l => H r l * G l) l := by
  intro r l
  have h := pay27 hX
  have h' := pay26 hX
  pointwise [k0_pay29]
  rw [h104, add_zero]
  simp only [add_zero, h4 _ _, hH _ _, h103, h _ _, h', mul_coe, sum_coe]
  rw [f32_1024, div_coe' (by norm_num), mul_coe, sub_coe, mul_coe, add_coe]
  rfl

theorem pay30 : Holds (k0_pay30 v4 v101 v103 v104 v108) fun r l => D r l + Norm.grad (X r) (fun l => H r l * G l) l := by
  intro r l
  pointwise [k0_pay30]
  exact pay29 hX hH h4 h103 h104 r l
end

theorem pay1 {v141 : FVec Ideal S256x1024 .bf16} {v143 : Vec Ideal S1024x1024 .bf16} {D W} (hD : Holds v141 D) (hW : Holds v143 W) :
    Holds (k0_pay1 v141 v143) fun r j => ∑ k, D r k * W j k := by
  intro r l
  pointwise [k0_pay1]
  exact sum_mul (fun k => hD _ _) fun k => hW _ _

end Cert.FfnIdeal.Body

end
-- ==== Proof.FfnHost.lean ====
/- What the kernel's operands hold when it starts: the activations the host lines prepare, on real arguments. -/
module

public import proofs.«01_k».proof.Proof.FfnBody
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnIdeal.Host

open Idealize.ShloMosaic Idealize.ShloMosaic.TcCoe Idealize.SL.Sem
open Cert.FfnIdeal Cert.FfnIdeal.Gen Cert.Lift Cert.Swiglu Cert.FfnIdeal.Body

/-- The residual stream ahead of the block. -/
def stream (y xin : FVec Ideal S2x2048x1024 .f32) (wo : FVec Ideal S1024x1024 .f32) : FVec Ideal S4096x1024 .f32 :=
  addf (shapeCast _ xin shapeCasts_S2x2048x1024_S4096x1024)
    (Idealize.ShloMosaic.Host.dotGeneral dot_S4096x1024_S1024x1024_S4096x1024_1_0_0_1_n_n none
      (shapeCast _ y shapeCasts_S2x2048x1024_S4096x1024) wo)

/-- Its RMS normalisation, with the gain. -/
def normed (x : FVec Ideal S4096x1024 .f32) (g : FVec Ideal S1024 .f32) : FVec Ideal S4096x1024 .f32 :=
  mulf (mulf x (broadcastInDim S4096x1024 ![0, 1] bcast_S4096x1_S4096x1024_0_1
      (Idealize.ShloMosaic.Host.rsqrt (addf
        (Idealize.ShloMosaic.Host.divf (broadcastInDim S4096x1 ![0] bcast_S4096_S4096x1_0
            (Idealize.ShloMosaic.Host.reduceAdd (mulf x x) (constant S_ .f32 0x00000000#32) reducesTo_S4096x1024_S4096_d1 h_S_))
          (broadcastInDim S4096x1 ![] bcast_S_S4096x1 (constant S_ .f32 0x44800000#32)))
        (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- One of the two products of the normalised token with an up-projection. -/
def proj (h : FVec Ideal S4096x1024 .f32) (w : FVec Ideal S1024x2816 .f32) : FVec Ideal S4096x2816 .bf16 :=
  truncf .bf16 (Idealize.ShloMosaic.Host.dotGeneral dot_S4096x1024_S1024x2816_S4096x2816_1_0_0_1_n_n none h w) bitsLt_bf16_f32

section
variable (m : (ℓ : Loc nD τ sig) → Buf (Elt Ideal) ℓ) (c : Dev nD)

theorem V_v3 : V m c main_v3 = stream (m ((c : Thread nD τ).loc main_arg0)) (m ((c : Thread nD τ).loc main_arg1))
    (m ((c : Thread nD τ).loc main_arg3)) := by
  unfold V; after_results; try rfl

theorem V_v18 : V m c main_v18 = proj (normed (stream (m ((c : Thread nD τ).loc main_arg0)) (m ((c : Thread nD τ).loc main_arg1))
    (m ((c : Thread nD τ).loc main_arg3))) (m ((c : Thread nD τ).loc main_arg2))) (m ((c : Thread nD τ).loc main_arg4)) := by
  unfold V; after_results; try rfl

theorem V_v20 : V m c main_v20 = proj (normed (stream (m ((c : Thread nD τ).loc main_arg0)) (m ((c : Thread nD τ).loc main_arg1))
    (m ((c : Thread nD τ).loc main_arg3))) (m ((c : Thread nD τ).loc main_arg2))) (m ((c : Thread nD τ).loc main_arg5)) := by
  unfold V; after_results; try rfl
end

variable (a : Args)

theorem split_tok (t : Fin 4096) (k : Fin 1024) (h) (h') (b : (⟨3, ![2, 2048, 1024]⟩ : Shape).Idx → ℝ) :
    up b (ix3 (⟨t.val / 2048, h⟩ : Fin 2) (⟨t.val % 2048, h'⟩ : Fin 2048) k) = ((tok b t k : ℝ) : EReal) := rfl

theorem stream_real : Holds (stream (up a.y) (up a.xin) (up a.wo)) a.X := by
  intro t k
  pointwise [stream]
  rw [sum_mul (fun k => split_tok _ _ _ _ a.y) fun k => up_mat a.wo _, split_tok, add_coe]
  rfl

theorem normed_real (x : FVec Ideal S4096x1024 .f32) (X) (hx : Holds x X) :
    Holds (normed x (up a.g)) fun t k => xhat X t k * vec a.g k := by
  intro t k
  pointwise [normed]
  rw [sum_mul (fun k => hx _ _) fun k => hx _ _, f32_1024, f32_eps, div_coe' (by norm_num), add_coe]
  rw [show (∑ k, X t k * X t k) / 1024 + eps = Norm.ms (X t) from rfl, rsqrt_coe' (Norm.ms_pos _), hx, mul_coe]
  exact mul_coe _ _

theorem proj_real (h : FVec Ideal S4096x1024 .f32) (H) (hh : Holds h H) (w : (⟨2, ![1024, 2816]⟩ : Shape).Idx → ℝ) :
    Holds (proj h (up w)) fun t j => ∑ k, H t k * mat w k j := by
  intro t j
  pointwise [proj]
  exact sum_mul (fun k => hh _ _) fun k => up_mat w _

/-- The kernel's arguments are the real arrays `a`. -/
structure Given (m : (ℓ : Loc nD τ sig) → Buf (Elt Ideal) ℓ) (c : Dev nD) (a : Args) : Prop where
  y : m ((c : Thread nD τ).loc main_arg0) = up a.y
  xin : m ((c : Thread nD τ).loc main_arg1) = up a.xin
  g : m ((c : Thread nD τ).loc main_arg2) = up a.g
  wo : m ((c : Thread nD τ).loc main_arg3) = up a.wo
  wg : m ((c : Thread nD τ).loc main_arg4) = up a.wg
  wu : m ((c : Thread nD τ).loc main_arg5) = up a.wu
  wd : m ((c : Thread nD τ).loc main_arg6) = up a.wd
  dx : m ((c : Thread nD τ).loc main_arg7) = up a.dx

variable {m : (ℓ : Loc nD τ sig) → Buf (Elt Ideal) ℓ} {c : Dev nD} {a : Args} (h : Given m c a)

/-- The windows' index maps: the token blocks move with the point, the weights stay. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![0, 0] ∧ win0_15.index t = ![t.val, 0] ∧ win0_16.index t = ![t.val, 0] :=
  (by decide +kernel : ∀ t : Fin grid0.N, _)

/-- The token of row `r` of point `t`'s blocks. -/
def row (t : Fin cfg0.N) (r : Fin 256) : Fin 4096 :=
  ⟨t.val * 256 + r.val, by have := N_0; have : t.val < grid0.N := t.isLt; omega⟩

theorem place0 (t : Fin cfg0.N) (r : Fin 256) (k : Fin 1024) : (win0_0.blk t).view.emb (ix2 r k) = ix2 (row t r) k := by
  blk_ext [idx t, row]

theorem place1 (t : Fin cfg0.N) (r : Fin 2816) (k : Fin 1024) : (win0_1.blk t).view.emb (ix2 r k) = ix2 r k := by
  blk_ext [idx t, row]

theorem place2 (t : Fin cfg0.N) (r : Fin 256) (k : Fin 2816) : (win0_2.blk t).view.emb (ix2 r k) = ix2 (row t r) k := by
  blk_ext [idx t, row]

theorem place3 (t : Fin cfg0.N) (r : Fin 256) (k : Fin 2816) : (win0_3.blk t).view.emb (ix2 r k) = ix2 (row t r) k := by
  blk_ext [idx t, row]

theorem place4 (t : Fin cfg0.N) (r : Fin 2816) (k : Fin 1024) : (win0_4.blk t).view.emb (ix2 r k) = ix2 r k := by
  blk_ext [idx t, row]

theorem place5 (t : Fin cfg0.N) (r : Fin 2816) (k : Fin 1024) : (win0_5.blk t).view.emb (ix2 r k) = ix2 r k := by
  blk_ext [idx t, row]

theorem place6 (t : Fin cfg0.N) (r : Fin 256) (k : Fin 1024) : (win0_6.blk t).view.emb (ix2 r k) = ix2 (row t r) k := by
  blk_ext [idx t, row]

theorem place7 (t : Fin cfg0.N) (r : Fin 1) (k : Fin 1024) : (win0_7.blk t).view.emb (ix2 r k) = ix2 r k := by
  blk_ext [idx t, row]

theorem place8 (t : Fin cfg0.N) (r : Fin 8) (k : Fin 128) : (win0_8.blk t).view.emb (ix2 r k) = ix2 r k := by
  blk_ext [idx t, row]

theorem place9 (t : Fin cfg0.N) (r : Fin 1024) (k : Fin 1024) : (win0_9.blk t).view.emb (ix2 r k) = ix2 r k := by
  blk_ext [idx t, row]

include h

theorem blk0 (t : Fin cfg0.N) : Holds (iblk m c 0 t) fun r k => tok a.dx (row t r) k := by
  intro r k
  blk_simp [iblk]
  rw [place0]
  entry_read
  pointwise
  rw [h.dx]
  rfl

theorem blk1 (t : Fin cfg0.N) : Holds (iblk m c 1 t) (mat a.wd) := by
  intro r k
  blk_simp [iblk]
  rw [place1]
  entry_read
  pointwise
  rw [h.wd]
  exact up_mat a.wd _

theorem blk2 (t : Fin cfg0.N) : Holds (iblk m c 2 t) fun r j => a.gate (row t r) j := by
  intro r k
  blk_simp [iblk]
  rw [place2]
  rw [V_v18 m c, h.y, h.xin, h.wo, h.g, h.wg]
  exact proj_real _ _ (normed_real a _ _ (stream_real a)) _ _ _

theorem blk3 (t : Fin cfg0.N) : Holds (iblk m c 3 t) fun r j => a.lin (row t r) j := by
  intro r k
  blk_simp [iblk]
  rw [place3]
  rw [V_v20 m c, h.y, h.xin, h.wo, h.g, h.wu]
  exact proj_real _ _ (normed_real a _ _ (stream_real a)) _ _ _

theorem blk4 (t : Fin cfg0.N) : Holds (iblk m c 4 t) fun j k => mat a.wg k j := by
  intro r k
  blk_simp [iblk]
  rw [place4]
  entry_read
  pointwise
  rw [h.wg]
  exact up_mat a.wg _

theorem blk5 (t : Fin cfg0.N) : Holds (iblk m c 5 t) fun j k => mat a.wu k j := by
  intro r k
  blk_simp [iblk]
  rw [place5]
  entry_read
  pointwise
  rw [h.wu]
  exact up_mat a.wu _

theorem blk6 (t : Fin cfg0.N) : Holds (iblk m c 6 t) fun r k => a.X (row t r) k := by
  intro r k
  blk_simp [iblk]
  rw [place6]
  rw [V_v3 m c, h.y, h.xin, h.wo]
  exact stream_real a _ _

theorem blk7 (t : Fin cfg0.N) : Holds (iblk m c 7 t) fun _ k => vec a.g k := by
  intro r k
  blk_simp [iblk]
  rw [place7]
  entry_read
  pointwise
  rw [h.g]
  exact up_vec a.g _

theorem blk9 (t : Fin cfg0.N) : Holds (iblk m c 9 t) (mat a.wo) := by
  intro r k
  blk_simp [iblk]
  rw [place9]
  entry_read
  pointwise
  rw [h.wo]
  exact up_mat a.wo _

theorem blk8 (t : Fin cfg0.N) (r : Fin 8) (k : Fin 128) : (iblk m c 8 t : FVec Ideal S8x128 .f32) (ix2 r k) = (0 : EReal) := by
  blk_simp [iblk]
  rw [place8]
  entry_read
  pointwise

end Cert.FfnIdeal.Host

end
-- ==== Proof.FfnPoint.lean ====
/- One grid point of the kernel on real blocks: its 256 tokens, the hidden columns in three parts. -/
module

public import proofs.«01_k».proof.Proof.FfnHost

@[expose] public section

set_option maxRecDepth 16384

noncomputable section

namespace Cert.FfnIdeal.Body

open Idealize.ShloMosaic Idealize.ShloMosaic.TcCoe Idealize.SL.Sem
open Cert.FfnIdeal Cert.FfnIdeal.Gen Cert.Lift Cert.Swiglu

/-- A sum over the hidden columns, part by part. -/
theorem sum_parts (f : Fin 2816 → ℝ) : ∑ j, f j = (∑ j : Fin 1024, f (from' 0 (by omega) j))
    + (∑ j : Fin 1024, f (from' 1024 (by omega) j)) + ∑ j : Fin 768, f (from' 2048 (by omega) j) := by
  have e := Fin.sum_univ_add (a := 1024 + 1024) (b := 768) f
  have e' := Fin.sum_univ_add (a := 1024) (b := 1024) fun j => f (Fin.castAdd 768 j)
  refine e.trans ?_
  rw [e']
  refine congrArg₂ (· + ·) (congrArg₂ (· + ·) (Finset.sum_congr rfl fun j _ => congrArg f (Fin.ext ?_)) rfl) rfl
  exact (Nat.zero_add _).symm

/-- The three parts of the hidden columns. -/
abbrev lo (j : Fin 1024) : Fin 2816 := from' 0 (by omega) j
abbrev mid (j : Fin 1024) : Fin 2816 := from' 1024 (by omega) j
abbrev hi (j : Fin 768) : Fin 2816 := from' 2048 (by omega) j

/-! A point's blocks: its tokens `R r`, the weights' and the activations' three parts. -/
section
variable (a : Args) (R : Fin 256 → Fin 4096)
  {v3 : Vec Ideal S256x1024 .f32} (h3 : Holds v3 fun r k => tok a.dx (R r) k)
  {v5 : FVec Ideal S256x1024 .bf16} (h5 : Holds v5 fun r k => tok a.dx (R r) k)
  {v7 v38 : Vec Ideal S1024x1024 .bf16} {v10 v13 v41 v44 : Vec Ideal S256x1024 .bf16}
  {v70 : Vec Ideal S768x1024 .bf16} {v73 v76 : Vec Ideal S256x768 .bf16}
  (h7 : Holds v7 fun j k => mat a.wd (lo j) k) (h10 : Holds v10 fun r j => a.gate (R r) (lo j))
  (h13 : Holds v13 fun r j => a.lin (R r) (lo j))
  (h38 : Holds v38 fun j k => mat a.wd (mid j) k) (h41 : Holds v41 fun r j => a.gate (R r) (mid j))
  (h44 : Holds v44 fun r j => a.lin (R r) (mid j))
  (h70 : Holds v70 fun j k => mat a.wd (hi j) k) (h73 : Holds v73 fun r j => a.gate (R r) (hi j))
  (h76 : Holds v76 fun r j => a.lin (R r) (hi j))

include h3 h7 h10 in
theorem dup_lo : Holds (k0_pay9 v3 v7 v10) fun r j => a.dup (R r) (lo j) := pay9 h3 h7 h10

include h3 h7 h10 h13 in
theorem dgate_lo : Holds (k0_pay8 v3 v7 v10 v13) fun r j => a.dgate (R r) (lo j) := pay8 h3 h7 h10 h13

include h5 h38 h41 in
theorem dup_mid : Holds (k0_pay16 v5 v38 v41) fun r j => a.dup (R r) (mid j) := pay16 h5 h38 h41

include h5 h38 h41 h44 in
theorem dgate_mid : Holds (k0_pay15 v5 v38 v41 v44) fun r j => a.dgate (R r) (mid j) := pay15 h5 h38 h41 h44

include h5 h70 h73 in
theorem dup_hi : Holds (k0_pay22 v5 v70 v73) fun r j => a.dup (R r) (hi j) := pay22 h5 h70 h73

include h5 h70 h73 h76 in
theorem dgate_hi : Holds (k0_pay21 v5 v70 v73 v76) fun r j => a.dgate (R r) (hi j) := pay21 h5 h70 h73 h76

variable {v31 v34 v62 v65 : Vec Ideal S1024x1024 .bf16} {v94 v97 : Vec Ideal S768x1024 .bf16}
  (h31 : Holds v31 fun j k => mat a.wg k (lo j)) (h34 : Holds v34 fun j k => mat a.wu k (lo j))
  (h62 : Holds v62 fun j k => mat a.wg k (mid j)) (h65 : Holds v65 fun j k => mat a.wu k (mid j))
  (h94 : Holds v94 fun j k => mat a.wg k (hi j)) (h97 : Holds v97 fun j k => mat a.wu k (hi j))

include h3 h5 h7 h10 h13 h38 h41 h44 h70 h73 h76 h31 h34 h62 h65 h94 h97 in
/-- The gradient of the normalised token, over all hidden columns. -/
theorem dh_parts : Holds (k0_pay23 v5 (k0_pay11 (k0_pay8 v3 v7 v10 v13) (k0_pay9 v3 v7 v10) (k0_pay10 v31)
      (constant S256x1024 .f32 0x00000000#32) v34) (k0_pay17 v5 v38 v41 v44 v62 v65) v70 v73 v76 v94 v97)
    fun r l => a.dh (R r) l := by
  intro r l
  rw [pay23 (pay11 (dgate_lo a R h3 h7 h10 h13) (dup_lo a R h3 h7 h10) (pay10 h31) h34)
    (pay17 (dgate_mid a R h5 h38 h41 h44) (dup_mid a R h5 h38 h41) h62 h65)
    (dgate_hi a R h5 h70 h73 h76) (dup_hi a R h5 h70 h73) h94 h97 r l]
  refine congrArg (fun x : ℝ => (x : EReal)) ?_
  beta_reduce
  rw [a.dh_eq, sum_parts, sum_parts fun j => a.dup (R r) j * _]
  ring
end

end Cert.FfnIdeal.Body

end
-- ==== Proof.FfnValue.lean ====
/- The kernel's results as real arrays: what each grid point leaves of its blocks. -/
module

public import proofs.«01_k».proof.Proof.FfnPoint

@[expose] public section

set_option maxRecDepth 16384

noncomputable section

namespace Cert.FfnIdeal.Results

open Idealize.ShloMosaic Idealize.ShloMosaic.TcCoe Idealize.SL.Sem
open Cert.FfnIdeal Cert.FfnIdeal.Gen Cert.Lift Cert.Swiglu Cert.FfnIdeal.Body Cert.FfnIdeal.Host

/-- A block of point `t`'s tokens, at an index of the whole array. -/
theorem of_block {n : ℕ} {v : (⟨2, ![256, n]⟩ : Shape).Idx → EReal} {f : Fin 4096 → Fin n → ℝ} {t : Fin cfg0.N}
    (hv : Holds v fun r l => f (row t r) l) (y : (⟨2, ![256, n]⟩ : Shape).Idx) (i : Fin 4096) (j : Fin n)
    (hi : i.val = t.val * 256 + (y 0).val) (hj : j.val = (y 1).val) : v y = ((f i j : ℝ) : EReal) := by
  have e : v y = v (ix2 (y 0) (y 1)) := congrArg v (eq_ix2 y)
  refine e.trans ((hv (y 0) (y 1)).trans (congrArg (fun x : ℝ => (x : EReal)) ?_))
  exact congrArg₂ f (Fin.ext hi.symm) (Fin.ext hj.symm)

/-- A part of point `t`'s columns, at an index of the whole array. -/
theorem of_part {n n' o : ℕ} {v : (⟨2, ![256, n']⟩ : Shape).Idx → EReal} {f : Fin 4096 → Fin n → ℝ} {t : Fin cfg0.N}
    {ho : o + n' ≤ n} (hv : Holds v fun r l => f (row t r) (from' o ho l)) (x : (⟨2, ![256, n']⟩ : Shape).Idx)
    (i : Fin 4096) (j : Fin n) (hi : i.val = t.val * 256 + (x 0).val) (hj : j.val = o + (x 1).val) :
    v x = ((f i j : ℝ) : EReal) := by
  have e : v x = v (ix2 (x 0) (x 1)) := congrArg v (eq_ix2 x)
  refine e.trans ((hv (x 0) (x 1)).trans (congrArg (fun x : ℝ => (x : EReal)) ?_))
  exact congrArg₂ f (Fin.ext hi.symm) (Fin.ext hj.symm)

/-- The one entry loaded from the padding block. -/
theorem corner {x : (⟨2, ![8, 128]⟩ : Shape).Idx → EReal} (hx : ∀ r k, x (ix2 r k) = 0)
    (inb : ∀ a, (![0, 0] : Fin 2 → ℕ) a + (![1, 1] : Fin 2 → ℕ) a ≤ (⟨2, ![8, 128]⟩ : Shape).size a) :
    x ((Rect.unit (s := ⟨2, ![8, 128]⟩) ![0, 0] ![1, 1] inb).idx (ix2 0 0 : (⟨2, ![1, 1]⟩ : Shape).Idx)) = 0 :=
  (congrArg x (eq_ix2 _)).trans (hx _ _)

variable {m : (ℓ : Loc nD τ sig) → Buf (Elt Ideal) ℓ} {c : Dev nD} {a : Args} (h : Given m c a)
include h

theorem gain (t : Fin cfg0.N) (l : Fin 1024) : k0_pay24 (iblk m c 7 t) (ix2 0 l) = ((vec a.g l : ℝ) : EReal) := by
  pointwise [k0_pay24]
  exact blk7 h t 0 l

/-- The gradient of the normalised tokens of point `t`, from the blocks the point loads. -/
theorem dh_point (t : Fin cfg0.N) {v : FVec Ideal S256x1024 .f32}
    (hv : v = k0_pay23 (k0_pay4 (iblk m c 0 t)) (k0_pay11
        (k0_pay8 (iblk m c 0 t) (View.ld (iblk m c 1 t) (Rect.unit ![0, 0] ![1024, 1024] inb_S2816x1024_S1024x1024_0_0))
          (View.ld (iblk m c 2 t) (Rect.unit ![0, 0] ![256, 1024] inb_S256x2816_S256x1024_0_0))
          (View.ld (iblk m c 3 t) (Rect.unit ![0, 0] ![256, 1024] inb_S256x2816_S256x1024_0_0)))
        (k0_pay9 (iblk m c 0 t) (View.ld (iblk m c 1 t) (Rect.unit ![0, 0] ![1024, 1024] inb_S2816x1024_S1024x1024_0_0))
          (View.ld (iblk m c 2 t) (Rect.unit ![0, 0] ![256, 1024] inb_S256x2816_S256x1024_0_0)))
        (k0_pay10 (View.ld (iblk m c 4 t) (Rect.unit ![0, 0] ![1024, 1024] inb_S2816x1024_S1024x1024_0_0)))
        (constant S256x1024 FTy.f32 0#32)
        (View.ld (iblk m c 5 t) (Rect.unit ![0, 0] ![1024, 1024] inb_S2816x1024_S1024x1024_0_0)))
      (k0_pay17 (k0_pay4 (iblk m c 0 t))
        (View.ld (iblk m c 1 t) (Rect.unit ![1024, 0] ![1024, 1024] inb_S2816x1024_S1024x1024_1024_0))
        (View.ld (iblk m c 2 t) (Rect.unit ![0, 1024] ![256, 1024] inb_S256x2816_S256x1024_0_1024))
        (View.ld (iblk m c 3 t) (Rect.unit ![0, 1024] ![256, 1024] inb_S256x2816_S256x1024_0_1024))
        (View.ld (iblk m c 4 t) (Rect.unit ![1024, 0] ![1024, 1024] inb_S2816x1024_S1024x1024_1024_0))
        (View.ld (iblk m c 5 t) (Rect.unit ![1024, 0] ![1024, 1024] inb_S2816x1024_S1024x1024_1024_0)))
      (View.ld (iblk m c 1 t) (Rect.unit ![2048, 0] ![768, 1024] inb_S2816x1024_S768x1024_2048_0))
      (View.ld (iblk m c 2 t) (Rect.unit ![0, 2048] ![256, 768] inb_S256x2816_S256x768_0_2048))
      (View.ld (iblk m c 3 t) (Rect.unit ![0, 2048] ![256, 768] inb_S256x2816_S256x768_0_2048))
      (View.ld (iblk m c 4 t) (Rect.unit ![2048, 0] ![768, 1024] inb_S2816x1024_S768x1024_2048_0))
      (View.ld (iblk m c 5 t) (Rect.unit ![2048, 0] ![768, 1024] inb_S2816x1024_S768x1024_2048_0))) :
    Holds v fun r l => a.dh (row t r) l := by
  subst hv
  have h1 := blk1 h t
  have h2 := blk2 h t
  have h3 := blk3 h t
  have h4 := blk4 h t
  have h5 := blk5 h t
  exact dh_parts a (row t) (blk0 h t) (pay4 (blk0 h t))
    (h1.rows _ _) (h2.cols _ _) (h3.cols _ _) (h1.rows _ _) (h2.cols _ _) (h3.cols _ _) (h1.rows _ _) (h2.cols _ _) (h3.cols _ _)
    (h4.rows _ _) (h5.rows _ _) (h4.rows _ _) (h5.rows _ _) (h4.rows _ _) (h5.rows _ _)

theorem final10 : (dats m 0 c).arrAt 10 (cfgs 0).N = fun i => ((a.dgate (i 0) (i 1) : ℝ) : EReal) := by
  refine (dats m 0 c).arrAt_eq_of_covers 10 _ (by decide +kernel) fun t _ y => ?_
  blk_simp
  rw [after0_10]
  have h0 := blk0 h t
  have h1 := blk1 h t
  have h2 := blk2 h t
  have h3 := blk3 h t
  by_cases ht : t.val % 16 = 0
  on_goal 1 => rw [outsAt0_A m c t ht]
  on_goal 2 => rw [outsAt0_B m c t ht]
  all_goals
    frame_out
    canon_tiles x hx using View.cover_of_tiledBy _ ![256, 256] (by sl_kernel_rfl) y
    on_goal 1 => refine of_part (f := a.dgate) (o := 2048) (ho := by omega) (dgate_hi a (row t) (pay4 h0) (h1.rows _ _) (h2.cols _ _) (h3.cols _ _)) x _ _ ?_ ?_
    on_goal 3 => refine of_part (f := a.dgate) (o := 1024) (ho := by omega) (dgate_mid a (row t) (pay4 h0) (h1.rows _ _) (h2.cols _ _) (h3.cols _ _)) x _ _ ?_ ?_
    on_goal 5 => refine of_part (f := a.dgate) (o := 0) (ho := by omega) (dgate_lo a (row t) h0 (h1.rows _ _) (h2.cols _ _) (h3.cols _ _)) x _ _ ?_ ?_
    all_goals (blk_simp [idx t] <;> try omega)

theorem final11 : (dats m 0 c).arrAt 11 (cfgs 0).N = fun i => ((a.dup (i 0) (i 1) : ℝ) : EReal) := by
  refine (dats m 0 c).arrAt_eq_of_covers 11 _ (by decide +kernel) fun t _ y => ?_
  blk_simp
  rw [after0_11]
  have h0 := blk0 h t
  have h1 := blk1 h t
  have h2 := blk2 h t
  by_cases ht : t.val % 16 = 0
  on_goal 1 => rw [outsAt0_A m c t ht]
  on_goal 2 => rw [outsAt0_B m c t ht]
  all_goals
    frame_out
    canon_tiles x hx using View.cover_of_tiledBy _ ![256, 256] (by sl_kernel_rfl) y
    on_goal 1 => refine of_part (f := a.dup) (o := 2048) (ho := by omega) (dup_hi a (row t) (pay4 h0) (h1.rows _ _) (h2.cols _ _)) x _ _ ?_ ?_
    on_goal 3 => refine of_part (f := a.dup) (o := 1024) (ho := by omega) (dup_mid a (row t) (pay4 h0) (h1.rows _ _) (h2.cols _ _)) x _ _ ?_ ?_
    on_goal 5 => refine of_part (f := a.dup) (o := 0) (ho := by omega) (dup_lo a (row t) h0 (h1.rows _ _) (h2.cols _ _)) x _ _ ?_ ?_
    all_goals (blk_simp [idx t] <;> try omega)

theorem final12 : (dats m 0 c).arrAt 12 (cfgs 0).N = fun i => ((tok a.dx (i 0) (i 1) : ℝ) : EReal) := by
  refine (dats m 0 c).arrAt_eq_of_covers 12 _ (by decide +kernel) fun t _ y => ?_
  blk_simp
  rw [after0_12]
  by_cases ht : t.val % 16 = 0
  on_goal 1 => rw [outsAt0_A m c t ht]
  on_goal 2 => rw [outsAt0_B m c t ht]
  all_goals
    frame_out
    exact of_block (pay4 (blk0 h t)) y _ _ (by blk_simp [idx t]) (by blk_simp [idx t])

theorem final13 : (dats m 0 c).arrAt 13 (cfgs 0).N = fun i => ((a.dstream (i 0) (i 1) : ℝ) : EReal) := by
  refine (dats m 0 c).arrAt_eq_of_covers 13 _ (by decide +kernel) fun t _ y => ?_
  blk_simp
  rw [after0_13]
  by_cases ht : t.val % 16 = 0
  on_goal 1 => rw [outsAt0_A m c t ht]
  on_goal 2 => rw [outsAt0_B m c t ht]
  all_goals
    frame_out
    exact of_block (f := a.dstream) (pay29 (blk6 h t) (dh_point h t rfl) (pay3 (blk0 h t)) (gain h t)
      (corner (blk8 h t) _)) y _ _ (by blk_simp [idx t]) (by blk_simp [idx t])

theorem final16 : (dats m 0 c).arrAt 16 (cfgs 0).N = fun i => ((a.dstream (i 0) (i 1) : ℝ) : EReal) := by
  refine (dats m 0 c).arrAt_eq_of_covers 16 _ (by decide +kernel) fun t _ y => ?_
  blk_simp
  rw [after0_16]
  by_cases ht : t.val % 16 = 0
  on_goal 1 => rw [outsAt0_A m c t ht]
  on_goal 2 => rw [outsAt0_B m c t ht]
  all_goals
    frame_out
    exact of_block (f := a.dstream) (pay30 (blk6 h t) (dh_point h t rfl) (pay3 (blk0 h t)) (gain h t)
      (corner (blk8 h t) _)) y _ _ (by blk_simp [idx t]) (by blk_simp [idx t])

end Cert.FfnIdeal.Results

end
-- ==== Proof.FfnSum.lean ====
/- The remaining two results: the mixer's gradient, and the gain's, summed over the grid's points. -/
module

public import proofs.«01_k».proof.Proof.FfnValue

@[expose] public section

set_option maxRecDepth 16384

noncomputable section

namespace Cert.FfnIdeal.Results

open Idealize.ShloMosaic Idealize.ShloMosaic.TcCoe Idealize.SL.Sem
open Cert.FfnIdeal Cert.FfnIdeal.Gen Cert.Lift Cert.Swiglu Cert.FfnIdeal.Body Cert.FfnIdeal.Host

variable {m : (ℓ : Loc nD τ sig) → Buf (Elt Ideal) ℓ} {c : Dev nD} {a : Args} (h : Given m c a)

theorem zeros (j : S1x1024.Idx) : k0_pay2 (F := Ideal) j = 0 := by pointwise [k0_pay2]

/-- The points' rows are all tokens. -/
theorem sum_row (f : Fin 4096 → ℝ) : ∑ p : Fin cfg0.N, ∑ r, f (row p r) = ∑ t, f t :=
  Fin.sum_mul_add_congr (fun s k hl => rfl)

include h

set_option maxHeartbeats 1600000 in
theorem final15 : (dats m 0 c).arrAt 15 (cfgs 0).N = fun i => ((a.dmix (i 0) (i 1) : ℝ) : EReal) := by
  refine (dats m 0 c).arrAt_eq_of_covers 15 _ (by decide +kernel) fun t _ y => ?_
  blk_simp
  rw [after0_15]
  by_cases ht : t.val % 16 = 0
  on_goal 1 => rw [outsAt0_A m c t ht]
  on_goal 2 => rw [outsAt0_B m c t ht]
  all_goals
    frame_out
    exact of_block (f := a.dmix) (pay1 (pay30 (blk6 h t) (dh_point h t rfl) (pay3 (blk0 h t)) (gain h t)
      (corner (blk8 h t) _)) (blk9 h t)) y _ _ (by blk_simp [idx t]) (by blk_simp [idx t])

/-- What a point adds to the gain's gradient: its tokens' part of the sum. -/
theorem gain_part (t : Fin cfg0.N) {v : FVec Ideal S256x1024 .f32} (hv : Holds v fun r l => a.dh (row t r) l)
    (acc : FVec Ideal S1x1024 .f32) (j : S1x1024.Idx) : k0_pay28 v (iblk m c 6 t) acc j
      = acc j + ((∑ r, a.dh (row t r) (j 1) * xhat a.X (row t r) (j 1) : ℝ) : EReal) := by
  obtain ⟨l, rfl⟩ : ∃ l : Fin 1024, j = ix2 0 l :=
    ⟨j 1, (eq_ix2 j).trans (congrArg (fun i => ix2 i (j 1)) (Subsingleton.elim _ _))⟩
  exact pay28 (blk6 h t) hv acc l

set_option maxHeartbeats 1600000 in
theorem final14 : (dats m 0 c).arrAt 14 (cfgs 0).N = fun i => ((a.dgain (i 1) : ℝ) : EReal) := by
  refine (dats m 0 c).arrAt_eq_of_after_last 14 t0_15 (by decide +kernel) _ fun j => ?_
  blk_simp
  rw [after0_14, Pipeline.eq_sum_fin_of_reset_step_apply_last (fun n h => (outsAt0 m c n h).2.2.2.2.1) 16 (fun _ => 0)
    (fun t j => ((∑ r, a.dh (row t r) (j 1) * xhat a.X (row t r) (j 1) : ℝ) : EReal))
    (fun t ht j => by rw [outsAt0_A m c t ht]; frame_out; exact (gain_part h t (dh_point h t rfl) _ _).trans (by rw [zeros]))
    (fun t ht j => by rw [outsAt0_B m c t ht]; frame_out; exact gain_part h t (dh_point h t rfl) _ _)
    (le_of_eq N_0) t0_15 rfl j, zero_add]
  refine (sum_coe (fun p : Fin cfg0.N => ∑ r, a.dh (row p r) (j 1) * xhat a.X (row p r) (j 1))).trans ?_
  exact congrArg (fun x : ℝ => (x : EReal)) ((sum_row fun t => a.dh t (j 1) * xhat a.X t (j 1)).trans (a.dgain_eq _).symm)

end Cert.FfnIdeal.Results

end
-- ==== Proof.FfnRef.lean ====
/- The reference's values: on real arguments every result of the SwiGLU block's reference gradient is the real array of
   `FfnReal`. One lemma per stage, in the order of the reference's operations. -/
module

public import proofs.«01_k».proof.Proof.FfnIn
public import proofs.«01_k».proof.Proof.Blocks
public import proofs.«01_k».proof.Proof.Gen.FfnRefIdeal.Read

@[expose] public section

set_option maxRecDepth 16384

noncomputable section

namespace Cert.FfnRefIdeal.Real

open Idealize.ShloMosaic Idealize.SL.Sem
open Cert.FfnRefIdeal Cert.FfnRefIdeal.Read Cert.Lift Cert.Swiglu

variable (a : Args)

theorem v0 (i) : val_main_v0 (F := Ideal) (up a.y) i = ((tok a.y (i 0) (i 1) : ℝ) : EReal) := by
  rw [val_main_v0_apply]
  have h0 : (i 0).val < 4096 := (i 0).isLt
  have h1 : (i 1).val < 1024 := (i 1).isLt
  exact up_tok _ _ _ _ (show ((i 0).val * 1024 + (i 1).val) / 2097152 = (i 0).val / 2048 by omega)
    (show ((i 0).val * 1024 + (i 1).val) / 1024 % 2048 = (i 0).val % 2048 by omega)
    (show ((i 0).val * 1024 + (i 1).val) % 1024 = (i 1).val by omega)

theorem v1 (i) : val_main_v1 (F := Ideal) (up a.xin) i = ((tok a.xin (i 0) (i 1) : ℝ) : EReal) := by
  rw [val_main_v1_apply]
  have h0 : (i 0).val < 4096 := (i 0).isLt
  have h1 : (i 1).val < 1024 := (i 1).isLt
  exact up_tok _ _ _ _ (show ((i 0).val * 1024 + (i 1).val) / 2097152 = (i 0).val / 2048 by omega)
    (show ((i 0).val * 1024 + (i 1).val) / 1024 % 2048 = (i 0).val % 2048 by omega)
    (show ((i 0).val * 1024 + (i 1).val) % 1024 = (i 1).val by omega)

theorem v2 (i) : val_main_v2 (F := Ideal) (up a.dx) i = ((tok a.dx (i 0) (i 1) : ℝ) : EReal) := by
  rw [val_main_v2_apply]
  have h0 : (i 0).val < 4096 := (i 0).isLt
  have h1 : (i 1).val < 1024 := (i 1).isLt
  exact up_tok _ _ _ _ (show ((i 0).val * 1024 + (i 1).val) / 2097152 = (i 0).val / 2048 by omega)
    (show ((i 0).val * 1024 + (i 1).val) / 1024 % 2048 = (i 0).val % 2048 by omega)
    (show ((i 0).val * 1024 + (i 1).val) % 1024 = (i 1).val by omega)

theorem v4 (i) : val_main_v4 (F := Ideal) (up a.y) (up a.xin) (up a.wo) i = ((a.X (i 0) (i 1) : ℝ) : EReal) := by
  rw [val_main_v4_apply, v1, val_main_v3_apply, sum_mul (fun k => v0 a _) fun k => up_mat a.wo _]
  exact add_coe _ _

theorem v5 (i) : val_main_v5 (F := Ideal) (up a.g) i = ((vec a.g (i 1) : ℝ) : EReal) := by
  rw [val_main_v5_apply]; exact up_vec _ _

theorem v7 (i) : val_main_v7 (F := Ideal) (up a.y) (up a.xin) (up a.wo) i
    = ((∑ k, a.X (i 0) k * a.X (i 0) k : ℝ) : EReal) := by
  rw [val_main_v7_apply]
  refine zero_add_sum fun k => ?_
  rw [val_main_v6_apply, v4]; exact mul_coe _ _

theorem v12 (i) : val_main_v12 (F := Ideal) (up a.y) (up a.xin) (up a.wo) i
    = ((Norm.ms (a.X (i 0)) : ℝ) : EReal) := by
  rw [val_main_v12_apply, val_main_v10_apply, val_main_v8_apply, v7, val_main_v9_apply, val_main_v11_apply]
  show Ideal.div _ (Ideal.ofBits .f32 0x44800000#32) + Ideal.ofBits .f32 0x358637BD#32 = _
  rw [f32_1024, f32_eps, div_coe' (by norm_num), add_coe]; rfl

theorem v13 (i) : val_main_v13 (F := Ideal) (up a.y) (up a.xin) (up a.wo) i
    = ((Norm.rs (a.X (i 0)) : ℝ) : EReal) := by
  rw [val_main_v13_apply, v12, Ideal.hostUnary_rsqrt_def]; exact rsqrt_coe' (Norm.ms_pos _)

theorem v16 (i) : val_main_v16 (F := Ideal) (up a.y) (up a.xin) (up a.wo) i
    = ((-(1 / 2) * (Norm.rs (a.X (i 0)) / Norm.ms (a.X (i 0))) : ℝ) : EReal) := by
  rw [val_main_v16_apply, val_main_v15_apply, val_main_v14_apply, v12, v13]
  show Ideal.ofBits .f32 0xBF000000#32 * Ideal.div _ _ = _
  rw [f32_neg_half, div_coe' (Norm.ms_pos _).ne', mul_coe]

theorem v18 (i) : val_main_v18 (F := Ideal) (up a.y) (up a.xin) (up a.wo) i
    = ((xhat a.X (i 0) (i 1) : ℝ) : EReal) := by
  rw [val_main_v18_apply, val_main_v17_apply, v4, v13]; exact mul_coe _ _

theorem v20 (i) : val_main_v20 (F := Ideal) (up a.y) (up a.xin) (up a.g) (up a.wo) i
    = ((xhat a.X (i 0) (i 1) * vec a.g (i 1) : ℝ) : EReal) := by
  rw [val_main_v20_apply, val_main_v19_apply, v18, v5]; exact mul_coe _ _

theorem v21 (i) : val_main_v21 (F := Ideal) (up a.y) (up a.xin) (up a.g) (up a.wo) (up a.wg) i
    = ((a.gate (i 0) (i 1) : ℝ) : EReal) := by
  rw [val_main_v21_apply, sum_mul (fun k => v20 a _) fun k => up_mat a.wg _]; rfl

theorem v22 (i) : val_main_v22 (F := Ideal) (up a.y) (up a.xin) (up a.g) (up a.wo) (up a.wu) i
    = ((a.lin (i 0) (i 1) : ℝ) : EReal) := by
  rw [val_main_v22_apply, sum_mul (fun k => v20 a _) fun k => up_mat a.wu _]; rfl

/-- The logistic function as the reference computes it. -/
theorem v23_2 (i) : val_main_v23_2 (F := Ideal) (up a.y) (up a.xin) (up a.g) (up a.wo) (up a.wg) i
    = ((sg (a.gate (i 0) (i 1)) : ℝ) : EReal) := by
  rw [val_main_v23_2_apply, val_main_call0_v4_apply, val_main_call0_v3_apply, val_main_call0_v2_apply,
    val_main_call0_v1_apply, val_main_call0_v0_apply, v21]
  simp only [Ideal.hostUnary_exp_def, Ideal.hostNegf_def, Ideal.negf_def]
  show Ideal.div (Ideal.ofBits .f32 0x3F800000#32) (Ideal.ofBits .f32 0x3F800000#32 + Ideal.exp (-(_ : EReal))) = _
  rw [f32_one, neg_coe, Ideal.exp_coe, add_coe, div_coe' (by positivity), one_div]; rfl

theorem v23_1 (i) : val_main_v23_1 (F := Ideal) (up a.y) (up a.xin) (up a.g) (up a.wo) (up a.wg) i
    = ((sg (a.gate (i 0) (i 1)) * (1 - sg (a.gate (i 0) (i 1))) : ℝ) : EReal) := by
  rw [val_main_v23_1_apply, val_main_call0_v7_apply, val_main_call0_v6_apply, v23_2]
  show (_ : EReal) * (Ideal.ofBits .f32 0x3F800000#32 - _) = _
  rw [f32_one, sub_coe, mul_coe]

theorem v26 (i) : val_main_v26 (F := Ideal) (up a.wd) (up a.dx) i = ((a.da (i 0) (i 1) : ℝ) : EReal) := by
  rw [val_main_v26_apply, sum_mul (fun k => v2 a _) fun k => up_mat a.wd _]; rfl

theorem v27 (i) : val_main_v27 (F := Ideal) (up a.y) (up a.xin) (up a.g) (up a.wo) (up a.wg) (up a.wd) (up a.dx) i
    = ((a.dup (i 0) (i 1) : ℝ) : EReal) := by
  rw [val_main_v27_apply, val_main_v23_0_apply, v21, v23_2, v26]
  show (_ : EReal) * _ * _ = _
  rw [mul_coe, mul_coe]; exact congrArg (fun r : ℝ => (r : EReal)) (a.dup_of_product _ _)

theorem v28 (i) : val_main_v28 (F := Ideal) (up a.y) (up a.xin) (up a.g) (up a.wo) (up a.wu) (up a.wd) (up a.dx) i
    = ((a.da (i 0) (i 1) * a.lin (i 0) (i 1) : ℝ) : EReal) := by
  rw [val_main_v28_apply, v26, v22]; exact mul_coe _ _

theorem v29 (i) : val_main_v29 (F := Ideal) (up a.y) (up a.xin) (up a.g) (up a.wo) (up a.wg) (up a.wu) (up a.wd) (up a.dx) i
    = ((a.dgate (i 0) (i 1) : ℝ) : EReal) := by
  rw [val_main_v29_apply, val_main_call1_v1_apply, val_main_call1_v2_apply, val_main_call1_v0_apply, v21, v23_2, v23_1, v28]
  show (_ : EReal) * _ + _ * _ * _ = _
  rw [mul_coe, mul_coe, mul_coe, add_coe]; exact congrArg (fun r : ℝ => (r : EReal)) (a.dgate_of_product _ _)

theorem v32 (i) : val_main_v32 (F := Ideal) (up a.y) (up a.xin) (up a.g) (up a.wo) (up a.wg) (up a.wu) (up a.wd) (up a.dx) i
    = ((a.dh (i 0) (i 1) : ℝ) : EReal) := by
  rw [val_main_v32_apply, val_main_v30_apply, val_main_v31_apply, sum_mul (fun k => v27 a _) fun k => up_mat a.wu _,
    sum_mul (fun k => v29 a _) fun k => up_mat a.wg _]
  show (_ : EReal) + _ = _
  rw [add_coe]; exact congrArg (fun r : ℝ => (r : EReal)) (a.dh_of_sums (i 0) (i 1))

theorem v35 (i) : val_main_v35 (F := Ideal) (up a.y) (up a.xin) (up a.g) (up a.wo) (up a.wg) (up a.wu) (up a.wd) (up a.dx) i
    = ((a.dgain (i 1) : ℝ) : EReal) := by
  rw [val_main_v35_apply, val_main_v34_apply]
  have e : idx_main_v35 i 0 = i 1 := Fin.ext (by
    have h0 : (i 0).val < 1 := (i 0).isLt
    show (i 0).val * 1024 + (i 1).val = (i 1).val; omega)
  refine (zero_add_sum (p := fun t => a.dh t (i 1) * xhat a.X t (i 1)) fun t => ?_).trans rfl
  rw [val_main_v33_apply, v18, v32]
  show (_ : EReal) * _ = _
  rw [mul_coe, mul_comm]
  show ((a.dh t (idx_main_v35 i 0) * xhat a.X t (idx_main_v35 i 0) : ℝ) : EReal) = _
  rw [e]

theorem v37 (i) : val_main_v37 (F := Ideal) (up a.y) (up a.xin) (up a.g) (up a.wo) (up a.wg) (up a.wu) (up a.wd) (up a.dx) i
    = ((a.dh (i 0) (i 1) * vec a.g (i 1) : ℝ) : EReal) := by
  rw [val_main_v37_apply, val_main_v36_apply, v32, v5]; exact mul_coe _ _

/-- The factor the mean square's gradient contributes to a row, spread over the row. -/
theorem v47 (i) : val_main_v47 (F := Ideal) (up a.y) (up a.xin) (up a.g) (up a.wo) (up a.wg) (up a.wu) (up a.wd) (up a.dx) i
    = ((Norm.coef (a.X (i 0)) (fun l => a.dh (i 0) l * vec a.g l) : ℝ) : EReal) := by
  rw [val_main_v47_apply, val_main_v46_apply]
  refine (zero_add_sum (p := fun _ => Norm.coef (a.X (i 0)) (fun l => a.dh (i 0) l * vec a.g l)) fun k => ?_).trans
    (by rw [Fin.sum_univ_one])
  rw [val_main_v45_apply, val_main_v43_apply, val_main_v40_apply, val_main_v39_apply, val_main_v44_apply, v16]
  have h : ∀ j k, val_main_v38 (F := Ideal) (up a.y) (up a.xin) (up a.g) (up a.wo) (up a.wg) (up a.wu) (up a.wd) (up a.dx)
      (idx_main_v39 j k) = ((a.X (j 0) k * (a.dh (j 0) k * vec a.g k) : ℝ) : EReal) := fun j k => by
    rw [val_main_v38_apply, v4, v37]; exact mul_coe _ _
  show Ideal.div ((Ideal.ofBits .f32 0x00000000#32 + _) * _) (Ideal.ofBits .f32 0x44800000#32) = _
  rw [zero_add_sum fun k => h _ k, f32_1024, mul_coe, div_coe' (by norm_num)]
  obtain rfl : k = 0 := Subsingleton.elim _ _
  have e : idx_main_v40 (idx_main_v46 (idx_main_v47 i) 0) 0 = i 0 := Fin.ext (by
    show (i 0).val * 1 + 0 = (i 0).val; omega)
  rw [e]; rfl

theorem v52 (i) : val_main_v52 (F := Ideal) (up a.y) (up a.xin) (up a.g) (up a.wo) (up a.wg) (up a.wu) (up a.wd) (up a.dx) i
    = ((a.dstream (i 0) (i 1) : ℝ) : EReal) := by
  rw [val_main_v52_apply, val_main_v51_apply, val_main_v49_apply, val_main_v42_apply, val_main_v41_apply, val_main_v48_apply,
    val_main_v50_apply, v47, v4, v37, v13, v2]
  show (_ : EReal) + (_ * _ + _ * _ + _ * _) = _
  rw [mul_coe, mul_coe, mul_coe, add_coe, add_coe, add_coe]
  exact congrArg (fun r : ℝ => (r : EReal)) (a.dstream_of_product (i 0) (i 1))

theorem v53 (i) : val_main_v53 (F := Ideal) (up a.y) (up a.xin) (up a.g) (up a.wo) (up a.wg) (up a.wu) (up a.wd) (up a.dx) i
    = ((a.dmix (i 0) (i 1) : ℝ) : EReal) := by
  rw [val_main_v53_apply, sum_mul (fun k => v52 a _) fun k => up_mat a.wo _]; rfl

end Cert.FfnRefIdeal.Real

end
-- ==== Proof.FfnClaim.lean ====
/- The SwiGLU block's gradient: the kernel's seven results are the reference's, on finite arguments. -/
module

public import proofs.«01_k».proof.Defs
public import proofs.«01_k».proof.Proof.Finite
public import proofs.«01_k».proof.Proof.FfnSum
public import proofs.«01_k».proof.Proof.FfnRef
public import proofs.«01_k».proof.Proof.Gen.FfnRefIdeal.Run
public import proofs.«01_k».proof.Proof.Gen.Pre_finite_f

@[expose] public section

set_option maxRecDepth 16384

noncomputable section

namespace Cert.Proof

open Idealize.ShloMosaic Idealize.ShloMosaic.TcCoe Idealize.SL.Sem
open Cert.Lift Cert.Swiglu Cert.FfnIdeal.Host

/-- Finite arguments are real arrays. -/
theorem given_of_finite {m : (ℓ : Loc Cert.FfnIdeal.nD Cert.FfnIdeal.τ Cert.FfnIdeal.sig) → Buf (Elt Ideal) ℓ}
    (h : Cert.Pre_FfnIdeal_finite_f m) (c : Dev Cert.FfnIdeal.nD) : ∃ a : Args, Given m c a := by
  obtain ⟨h0, h1, h2, h3, h4, h5, h6, h7⟩ := h c
  exact ⟨⟨_, _, _, _, _, _, _, _⟩, ⟨real_of_finite _ h0, real_of_finite _ h1, real_of_finite _ h2, real_of_finite _ h3,
    real_of_finite _ h4, real_of_finite _ h5, real_of_finite _ h6, real_of_finite _ h7⟩⟩

open Cert.FfnRefIdeal.Read Cert.FfnRefIdeal.Real Cert.FfnIdeal.Results in
set_option maxHeartbeats 1600000 in
theorem ffn_algebraic : Cert.algebraic_FfnIdeal_FfnRefIdeal_pre_finite_f := by
  pair_intro
  · run_from Cert.FfnIdeal.Gen.run_main m g
    exact hc.1 16
  · run_from Cert.FfnRefIdeal.Value.run m' g'
    all_goals
      obtain ⟨a, h⟩ := given_of_finite hpre c
      obtain ⟨e0, e1, e2, e3, e4, e5, e6, e7⟩ := hagree c
    · rw [val_main_v54_eq m' c, e0, e1, e2, e3, e4, e5, e6, e7, h.y, h.xin, h.g, h.wo, h.wg, h.wu, h.wd, h.dx]
      exact (funext fun i => v29 a i).trans (final10 h).symm
    · rw [h.y, h.xin, h.g, h.wo, h.wg, h.wd, h.dx]
      refine (val_main_v55_eq (F := Ideal) (up a.y) (up a.xin) (up a.g) (up a.wo) (up a.wg) (up a.wd) (up a.dx)).trans ?_
      exact (funext fun i => v27 a i).trans (final11 h).symm
    · rw [h.dx]
      refine (val_main_v56_eq (F := Ideal) (up a.dx)).trans ?_
      exact (funext fun i => v2 a i).trans (final12 h).symm
    · rw [val_main_v52_eq m' c, e0, e1, e2, e3, e4, e5, e6, e7, h.y, h.xin, h.g, h.wo, h.wg, h.wu, h.wd, h.dx]
      exact (funext fun i => v52 a i).trans (final13 h).symm
    · rw [val_main_v35_eq m' c, e0, e1, e2, e3, e4, e5, e6, e7, h.y, h.xin, h.g, h.wo, h.wg, h.wu, h.wd, h.dx]
      exact (funext fun i => v35 a i).trans (final14 h).symm
    · rw [val_main_v57_eq m' c, e0, e1, e2, e3, e4, e5, e6, e7, h.y, h.xin, h.g, h.wo, h.wg, h.wu, h.wd, h.dx]
      exact (funext fun i => v53 a i).trans (final15 h).symm
    · rw [val_main_v58_eq m' c, e0, e1, e2, e3, e4, e5, e6, e7, h.y, h.xin, h.g, h.wo, h.wg, h.wu, h.wd, h.dx]
      exact (funext fun i => v52 a i).trans (final16 h).symm

end Cert.Proof

end
-- ==== Proof.DwValue.lean ====
/- The gradients of the SwiGLU block's three weights: what the kernel leaves of them. Each grid point computes 256 rows of
   every gradient, each entry a sum over all tokens. -/
module

public import proofs.«01_k».proof.Proof.Gen.FfnDwIdeal.Value
public import Idealize.ShloMosaic.Lib.Pipeline.ValueKit
public import Idealize.ShloMosaic.Lib.Pointwise
public import Idealize.ShloMosaic.Lib.Claim

@[expose] public section

set_option maxRecDepth 16384

noncomputable section

namespace Cert.Dw

open Idealize.ShloMosaic

/-- The gradient of a weight: the products of two columns summed over the tokens. -/
def outer {n m : ℕ} (d : (⟨2, ![4096, n]⟩ : Shape).Idx → EReal) (h : (⟨2, ![4096, m]⟩ : Shape).Idx → EReal) :
    (⟨2, ![n, m]⟩ : Shape).Idx → EReal :=
  fun i => ∑ t : Fin 4096, d (ix2 t (i 0)) * h (ix2 t (i 1))

end Cert.Dw

namespace Cert.FfnDwIdeal.Results

open Idealize.ShloMosaic Idealize.ShloMosaic.TcCoe Idealize.SL.Sem
open Cert.FfnDwIdeal Cert.FfnDwIdeal.Gen Cert.Dw

/-- The windows' index maps: the hidden columns move with the point, the tokens' other operands stay. -/
theorem idx : ∀ t : Fin cfg0.N, win0_0.index t = ![0, t.val] ∧ win0_1.index t = ![0, t.val] ∧ win0_2.index t = ![0, t.val]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The hidden column of column `j` of point `t`'s blocks. -/
def col (t : Fin cfg0.N) (j : Fin 256) : Fin 2816 :=
  ⟨t.val * 256 + j.val, by have := N_0; have : t.val < grid0.N := t.isLt; omega⟩

theorem place0 (t : Fin cfg0.N) (r : Fin 4096) (j : Fin 256) : (win0_0.blk t).view.emb (ix2 r j) = ix2 r (col t j) := by
  blk_ext [idx t, col]

theorem place1 (t : Fin cfg0.N) (r : Fin 4096) (j : Fin 256) : (win0_1.blk t).view.emb (ix2 r j) = ix2 r (col t j) := by
  blk_ext [idx t, col]

theorem place2 (t : Fin cfg0.N) (r : Fin 4096) (j : Fin 256) : (win0_2.blk t).view.emb (ix2 r j) = ix2 r (col t j) := by
  blk_ext [idx t, col]

theorem place3 (t : Fin cfg0.N) (r : Fin 4096) (k : Fin 1024) : (win0_3.blk t).view.emb (ix2 r k) = ix2 r k := by
  blk_ext [idx t]

theorem place4 (t : Fin cfg0.N) (r : Fin 4096) (k : Fin 1024) : (win0_4.blk t).view.emb (ix2 r k) = ix2 r k := by
  blk_ext [idx t]

/-- The product of two blocks summed over the tokens, read at an index of the whole gradient. -/
theorem of_block {v : (⟨2, ![256, 1024]⟩ : Shape).Idx → EReal} {d : (⟨2, ![4096, 2816]⟩ : Shape).Idx → EReal}
    {h : (⟨2, ![4096, 1024]⟩ : Shape).Idx → EReal} {t : Fin cfg0.N}
    (hv : ∀ r k, v (ix2 r k) = ∑ s : Fin 4096, d (ix2 s (col t r)) * h (ix2 s k)) (y : (⟨2, ![256, 1024]⟩ : Shape).Idx)
    (i : (⟨2, ![2816, 1024]⟩ : Shape).Idx) (hi : (i 0).val = t.val * 256 + (y 0).val) (hj : (i 1).val = (y 1).val) :
    v y = outer d h i := by
  have e0 : col t (y 0) = i 0 := Fin.ext hi.symm
  have e1 : y 1 = i 1 := Fin.ext hj.symm
  have e : v y = v (ix2 (y 0) (y 1)) := congrArg v (eq_ix2 y)
  refine e.trans ((hv (y 0) (y 1)).trans ?_)
  rw [e0, e1]
  rfl

variable (m : (ℓ : Loc nD τ sig) → Buf (Elt Ideal) ℓ) (c : Dev nD)

theorem blk0 (t : Fin cfg0.N) (r : Fin 4096) (j : Fin 256) :
    (iblk m c 0 t : FVec Ideal S4096x256 .bf16) (ix2 r j) = m ((c : Thread nD τ).loc main_arg0) (ix2 r (col t j)) := by
  blk_simp [iblk]
  rw [place0]
  entry_read
  pointwise

theorem blk1 (t : Fin cfg0.N) (r : Fin 4096) (j : Fin 256) :
    (iblk m c 1 t : FVec Ideal S4096x256 .bf16) (ix2 r j) = m ((c : Thread nD τ).loc main_arg1) (ix2 r (col t j)) := by
  blk_simp [iblk]
  rw [place1]
  entry_read
  pointwise

theorem blk2 (t : Fin cfg0.N) (r : Fin 4096) (j : Fin 256) :
    (iblk m c 2 t : FVec Ideal S4096x256 .bf16) (ix2 r j) = m ((c : Thread nD τ).loc main_arg2) (ix2 r (col t j)) := by
  blk_simp [iblk]
  rw [place2]
  entry_read
  pointwise

theorem blk3 (t : Fin cfg0.N) (r : Fin 4096) (k : Fin 1024) :
    (iblk m c 3 t : FVec Ideal S4096x1024 .bf16) (ix2 r k) = m ((c : Thread nD τ).loc main_arg3) (ix2 r k) := by
  blk_simp [iblk]
  rw [place3]
  entry_read
  pointwise

theorem blk4 (t : Fin cfg0.N) (r : Fin 4096) (k : Fin 1024) :
    (iblk m c 4 t : FVec Ideal S4096x1024 .bf16) (ix2 r k) = m ((c : Thread nD τ).loc main_arg4) (ix2 r k) := by
  blk_simp [iblk]
  rw [place4]
  entry_read
  pointwise

theorem product (d : FVec Ideal S4096x256 .bf16) (h : FVec Ideal S4096x1024 .bf16) (r : Fin 256) (k : Fin 1024) :
    k0_pay4 d h (ix2 r k) = ∑ s : Fin 4096, d (ix2 s r) * h (ix2 s k) := by
  pointwise [k0_pay4]

/-- The gradient of the gate's weight. -/
theorem final5 : (dats m 0 c).arrAt 5 (cfgs 0).N
    = outer (m ((c : Thread nD τ).loc main_arg0)) (m ((c : Thread nD τ).loc main_arg3)) := by
  refine (dats m 0 c).arrAt_eq_of_covers 5 _ (by decide +kernel) fun t _ y => ?_
  blk_simp
  rw [after0_5]
  frame_out
  refine of_block (v := k0_pay2 (iblk m c 3 t) (iblk m c 0 t)) (t := t) (fun r k => (product _ _ r k).trans ?_) y _ (by blk_simp [idx t]) (by blk_simp [idx t])
  exact Finset.sum_congr rfl fun s _ => congrArg₂ (· * ·) (blk0 m c t s r) (blk3 m c t s k)

/-- The gradient of the other input's weight. -/
theorem final6 : (dats m 0 c).arrAt 6 (cfgs 0).N
    = outer (m ((c : Thread nD τ).loc main_arg1)) (m ((c : Thread nD τ).loc main_arg3)) := by
  refine (dats m 0 c).arrAt_eq_of_covers 6 _ (by decide +kernel) fun t _ y => ?_
  blk_simp
  rw [after0_6]
  frame_out
  refine of_block (v := k0_pay3 (iblk m c 3 t) (iblk m c 1 t)) (t := t) (fun r k => (product _ _ r k).trans ?_) y _ (by blk_simp [idx t]) (by blk_simp [idx t])
  exact Finset.sum_congr rfl fun s _ => congrArg₂ (· * ·) (blk1 m c t s r) (blk3 m c t s k)

/-- The gradient of the output's weight. -/
theorem final7 : (dats m 0 c).arrAt 7 (cfgs 0).N
    = outer (m ((c : Thread nD τ).loc main_arg2)) (m ((c : Thread nD τ).loc main_arg4)) := by
  refine (dats m 0 c).arrAt_eq_of_covers 7 _ (by decide +kernel) fun t _ y => ?_
  blk_simp
  rw [after0_7]
  frame_out
  refine of_block (t := t) (fun r k => (product _ _ r k).trans ?_) y _ (by blk_simp [idx t]) (by blk_simp [idx t])
  exact Finset.sum_congr rfl fun s _ => congrArg₂ (· * ·) (blk2 m c t s r) (blk4 m c t s k)

end Cert.FfnDwIdeal.Results

end
-- ==== Proof.DwClaim.lean ====
/- The gradients of the SwiGLU block's three weights: the kernel's results are the reference's. -/
module

public import proofs.«01_k».proof.Defs
public import proofs.«01_k».proof.Proof.DwValue
public import proofs.«01_k».proof.Proof.Gen.FfnDwRefIdeal.Read
public import proofs.«01_k».proof.Proof.Gen.FfnDwRefIdeal.Run

@[expose] public section

set_option maxRecDepth 16384

noncomputable section

namespace Cert.FfnDwRefIdeal.Real

open Idealize.ShloMosaic Idealize.ShloMosaic.TcCoe Idealize.SL.Sem
open Cert.FfnDwRefIdeal Cert.FfnDwRefIdeal.Read Cert.Dw

theorem v12 (d : FVec Ideal S4096x2816 .f32) (h : FVec Ideal S4096x1024 .f32) : val_main_v12 (F := Ideal) d h = outer d h := by
  funext i
  rw [eq_ix2 i]
  pointwise [val_main_v12, val_main_v11, val_main_v10, val_main_v9]
  rfl

theorem v14 (d : FVec Ideal S4096x2816 .f32) (h : FVec Ideal S4096x1024 .f32) : val_main_v14 (F := Ideal) d h = outer d h := by
  funext i
  rw [eq_ix2 i]
  pointwise [val_main_v14, val_main_v13, val_main_v8, val_main_v7]
  rfl

theorem v15 (d : FVec Ideal S4096x2816 .f32) (h : FVec Ideal S4096x1024 .f32) : val_main_v15 (F := Ideal) d h = outer d h := by
  funext i
  rw [eq_ix2 i]
  pointwise [val_main_v15, val_main_v6, val_main_v5]
  exact Finset.sum_congr rfl fun s _ => mul_comm (_ : EReal) _

end Cert.FfnDwRefIdeal.Real

namespace Cert.Proof

open Idealize.ShloMosaic Idealize.ShloMosaic.TcCoe Idealize.SL.Sem
open Cert.FfnDwRefIdeal.Read Cert.FfnDwRefIdeal.Real Cert.FfnDwIdeal.Results

theorem dw_algebraic : Cert.algebraic_FfnDwIdeal_FfnDwRefIdeal := by
  pair_intro
  · run_from Cert.FfnDwIdeal.Gen.run_main m g
  · run_from Cert.FfnDwRefIdeal.Value.run m' g'
    · exact ((val_main_v12_eq (F := Ideal) _ _).trans (v12 _ _)).trans (final5 m c).symm
    · exact ((val_main_v14_eq (F := Ideal) _ _).trans (v14 _ _)).trans (final6 m c).symm
    · exact ((val_main_v15_eq (F := Ideal) _ _).trans (v15 _ _)).trans (final7 m c).symm

set_option maxHeartbeats 1600000 in
theorem dw_reference_frame : Cert.quiescent_FfnDwRefIdeal := by
  intro m g _
  hlo_run
  · exact fun _ => ⟨trivial, trivial, trivial, trivial, trivial⟩
  · exact sem_eq_zero_of_no_sems (sig := Cert.FfnDwRefIdeal.sig) (by decide) _

end Cert.Proof

end
-- ==== Proof.ConvReal.lean ====
/- The short convolution of one layer and its gradients over the real numbers: `x` the residual stream ahead of the block, one
   row per token, two sequences of 2048 tokens one after the other. -/
module

public import proofs.«01_k».proof.Proof.FfnIn
public import proofs.«01_k».proof.Proof.Blocks

@[expose] public section

set_option maxRecDepth 16384

noncomputable section

namespace Cert.ShortConv

open Idealize.ShloMosaic Cert.Lift Cert.Swiglu

/-- The rows of `f` as seen `n` tokens later in the same sequence; zeros ahead of the sequence's start. -/
def prev (n : ℕ) (f : Fin 4096 → Fin 1024 → ℝ) (t : Fin 4096) (k : Fin 1024) : ℝ :=
  if t.val % 2048 < n then 0 else f ⟨t.val - n, by omega⟩ k

/-- The rows of `f` as seen `n` tokens earlier in the same sequence; zeros behind the sequence's end. -/
def next (n : ℕ) (f : Fin 4096 → Fin 1024 → ℝ) (t : Fin 4096) (k : Fin 1024) : ℝ :=
  if h : t.val % 2048 + n < 2048 then f ⟨t.val + n, by omega⟩ k else 0

/-- The arguments: the residual stream, the gain, the input projection, the three taps, the gradient of the convolution's
    output, and the gradient that the residual carries past the block. -/
structure Args where
  x : (⟨3, ![2, 2048, 1024]⟩ : Shape).Idx → ℝ
  g : (⟨1, ![1024]⟩ : Shape).Idx → ℝ
  w : (⟨2, ![1024, 3072]⟩ : Shape).Idx → ℝ
  cw : (⟨2, ![3, 1024]⟩ : Shape).Idx → ℝ
  dy : (⟨3, ![2, 2048, 1024]⟩ : Shape).Idx → ℝ
  dres : (⟨3, ![2, 2048, 1024]⟩ : Shape).Idx → ℝ

namespace Args

variable (a : Args)

/-- The input projection of the normalised token: the two gates' and the signal's columns side by side. -/
def p (t : Fin 4096) (j : Fin 3072) : ℝ := ∑ k, xhat (tok a.x) t k * vec a.g k * mat a.w k j

/-- The output's gate, the input's gate and the signal. -/
def gb (t : Fin 4096) (k : Fin 1024) : ℝ := a.p t (from' 0 (by omega) k)
def gc (t : Fin 4096) (k : Fin 1024) : ℝ := a.p t (from' 1024 (by omega) k)
def xt (t : Fin 4096) (k : Fin 1024) : ℝ := a.p t (from' 2048 (by omega) k)

/-- The gated signal, and it as the convolution's three taps see it. -/
def q (t : Fin 4096) (k : Fin 1024) : ℝ := a.gc t k * a.xt t k
def q2 (t : Fin 4096) (k : Fin 1024) : ℝ := prev 2 a.q t k
def q1 (t : Fin 4096) (k : Fin 1024) : ℝ := prev 1 a.q t k

/-- The convolution. -/
def y (t : Fin 4096) (k : Fin 1024) : ℝ := mat a.cw 0 k * a.q2 t k + mat a.cw 1 k * a.q1 t k + mat a.cw 2 k * a.q t k

/-- The gradient of the convolution's output. -/
def dyc (t : Fin 4096) (k : Fin 1024) : ℝ := tok a.dy t k * a.gb t k

/-- The gradient of the gated signal: the taps in reverse. -/
def dq (t : Fin 4096) (k : Fin 1024) : ℝ :=
  mat a.cw 2 k * a.dyc t k + mat a.cw 1 k * next 1 a.dyc t k + mat a.cw 0 k * next 2 a.dyc t k

/-- The gradients of the two gates and of the signal, -/
def dgb (t : Fin 4096) (k : Fin 1024) : ℝ := tok a.dy t k * a.y t k
def dgc (t : Fin 4096) (k : Fin 1024) : ℝ := a.dq t k * a.xt t k
def dxt (t : Fin 4096) (k : Fin 1024) : ℝ := a.dq t k * a.gc t k

/-- side by side. -/
def dp (t : Fin 4096) (j : Fin 3072) : ℝ :=
  if h : j.val < 1024 then a.dgb t ⟨j.val, h⟩
  else if h' : j.val < 2048 then a.dgc t ⟨j.val - 1024, by omega⟩ else a.dxt t ⟨j.val - 2048, by omega⟩

/-- The gated signal as tap `i` sees it, -/
def seen (i : Fin 3) (t : Fin 4096) (k : Fin 1024) : ℝ :=
  match i with | 0 => a.q2 t k | 1 => a.q1 t k | 2 => a.q t k

/-- and the gradients of the three taps. -/
def dcw (i : Fin 3) (k : Fin 1024) : ℝ := ∑ t, a.dyc t k * a.seen i t k

/-- The gradient of the normalised token, of the gain, and of the residual stream. -/
def dh (t : Fin 4096) (k : Fin 1024) : ℝ := ∑ j, a.dp t j * mat a.w k j
def dgain (k : Fin 1024) : ℝ := ∑ t, a.dh t k * xhat (tok a.x) t k
def dstream (t : Fin 4096) (k : Fin 1024) : ℝ :=
  tok a.dres t k + Norm.grad (tok a.x t) (fun l => a.dh t l * vec a.g l) k

/-- The stream's gradient with the normalisation's gradient as the product rule writes it. -/
theorem dstream_of_product (t : Fin 4096) (k : Fin 1024) :
    tok a.dres t k + (a.dh t k * vec a.g k * Norm.rs (tok a.x t)
      + tok a.x t k * Norm.coef (tok a.x t) (fun l => a.dh t l * vec a.g l)
      + Norm.coef (tok a.x t) (fun l => a.dh t l * vec a.g l) * tok a.x t k) = a.dstream t k := by
  rw [dstream, ← Norm.grad_eq]

theorem dp_lo (t : Fin 4096) (k : Fin 1024) (h) : a.dp t (from' 0 h k) = a.dgb t k := by
  have e : (from' 0 h k : Fin 3072).val = k.val := Nat.zero_add _
  rw [dp, dif_pos (by omega)]
  exact congrArg (a.dgb t) (Fin.ext e)

theorem dp_mid (t : Fin 4096) (k : Fin 1024) (h) : a.dp t (from' 1024 h k) = a.dgc t k := by
  have e : (from' 1024 h k : Fin 3072).val = 1024 + k.val := rfl
  rw [dp, dif_neg (by omega), dif_pos (by omega)]
  exact congrArg (a.dgc t) (Fin.ext (by simp only [e]; omega))

theorem dp_hi (t : Fin 4096) (k : Fin 1024) (h) : a.dp t (from' 2048 h k) = a.dxt t k := by
  have e : (from' 2048 h k : Fin 3072).val = 2048 + k.val := rfl
  rw [dp, dif_neg (by omega), dif_neg (by omega)]
  exact congrArg (a.dxt t) (Fin.ext (by simp only [e]; omega))

end Args

end Cert.ShortConv

end
-- ==== Proof.ConvBody.lean ====
/- The kernel's arithmetic on one block of tokens and one group of 256 channels: on blocks of real numbers, what each of its
   stored values is. -/
module

public import proofs.«01_k».proof.Proof.ConvReal
public import proofs.«01_k».proof.Proof.Gen.ConvIdeal.Skeleton
public import Idealize.ShloMosaic.Lib.Pointwise

@[expose] public section

set_option maxRecDepth 16384

noncomputable section

namespace Cert.ConvIdeal.Body

open Idealize.ShloMosaic Idealize.SL.Sem
open Cert.ConvIdeal Cert.ConvIdeal.Gen Cert.Lift Cert.Swiglu

/-- The convolution's three products of one entry. -/
def three (c0 c1 c2 x0 x1 x2 : ℝ) : ℝ := c0 * x0 + c1 * x1 + c2 * x2

theorem three_real (c0 c1 c2 x0 x1 x2 : ℝ) : (c0 : EReal) * (x0 : EReal) + (c1 : EReal) * (x1 : EReal)
    + (c2 : EReal) * (x2 : EReal) = ((three c0 c1 c2 x0 x1 x2 : ℝ) : EReal) := by
  simp only [mul_coe, add_coe]; rfl

/-! What a group of channels loads: the three parts of the input projection, the incoming gradient, the taps, and the rows
    of the two scratch buffers. -/
variable {gb gc xt dy : Vec Ideal S512x256 .bf16} {GB GC XT DY : Fin 512 → Fin 256 → ℝ}
  (hgb : Holds gb GB) (hgc : Holds gc GC) (hxt : Holds xt XT) (hdy : Holds dy DY)
  {q2 q1 n1 n2 : Vec Ideal S512x256 .f32} {Q2 Q1 N1 N2 : Fin 512 → Fin 256 → ℝ}
  (hq2 : Holds q2 Q2) (hq1 : Holds q1 Q1) (hn1 : Holds n1 N1) (hn2 : Holds n2 N2)
  {w0 w1 w2 : Vec Ideal S1x256 .f32} {W0 W1 W2 : Fin 256 → ℝ}
  (hw0 : Holds w0 fun _ => W0) (hw1 : Holds w1 fun _ => W1) (hw2 : Holds w2 fun _ => W2)

/-- A block of zeros or of products, by a bit. -/
theorem select_real {b : BitVec 1} {B : Prop} [Decidable B] (hb : b = if B then 1#1 else 0#1) (x y : ℝ) :
    Scalar.select b (0 : EReal) ((x : EReal) * (y : EReal)) = (((if B then 0 else x * y : ℝ) : ℝ) : EReal) := by
  subst hb
  by_cases h : B
  · simp [h, Scalar.select]
  · simp [h, Scalar.select]

/-- The rows behind the sequence's start: zeros, or the gated signal of the block before. -/
theorem halo {b : BitVec 1} {B : Prop} [Decidable B] (hb : b = if B then 1#1 else 0#1)
    {c x : Vec Ideal S16x256 .bf16} {C X : Fin 16 → Fin 256 → ℝ} (hc : Holds c C) (hx : Holds x X) :
    Holds (k0_pay11 b c x) fun r l => if B then 0 else C r l * X r l := by
  intro r l
  pointwise [k0_pay11]
  rw [hc, hx]
  exact select_real hb _ _

theorem halo' {b : BitVec 1} {B : Prop} [Decidable B] (hb : b = if B then 1#1 else 0#1)
    {c x : Vec Ideal S16x256 .bf16} {C X : Fin 16 → Fin 256 → ℝ} (hc : Holds c C) (hx : Holds x X) :
    Holds (k0_pay17 b c x) fun r l => if B then 0 else C r l * X r l := by
  intro r l
  pointwise [k0_pay17]
  rw [hc, hx]
  exact select_real hb _ _

include hgc hxt in
theorem q_st : Holds (k0_pay12 (k0_pay10 gc xt)) fun r l => GC r l * XT r l := by
  intro r l
  pointwise [k0_pay12, k0_pay10, k0_pay9, k0_pay8]
  rw [hgc, hxt, mul_coe]

include hgc hxt in
theorem q : Holds (k0_pay10 gc xt) fun r l => GC r l * XT r l := by
  intro r l
  pointwise [k0_pay10, k0_pay9, k0_pay8]
  rw [hgc, hxt, mul_coe]

include hgb hdy in
theorem dyc : Holds (k0_pay15 (k0_pay7 gb) dy) fun r l => DY r l * GB r l := by
  intro r l
  pointwise [k0_pay15, k0_pay13, k0_pay7]
  rw [hgb, hdy, mul_coe]

include hgb hdy in
theorem dyc_st : Holds (k0_pay16 (k0_pay15 (k0_pay7 gb) dy)) fun r l => DY r l * GB r l := by
  intro r l
  pointwise [k0_pay16, k0_pay15, k0_pay13, k0_pay7]
  rw [hgb, hdy, mul_coe]

include hgc hxt hdy hq2 hq1 hw0 hw1 hw2 in
/-- The gradient of the output's gate. -/
theorem dgb : Holds (k0_pay14 (k0_pay10 gc xt) q2 q1 w0 w1 w2 dy)
    fun r l => DY r l * three (W0 l) (W1 l) (W2 l) (Q2 r l) (Q1 r l) (GC r l * XT r l) := by
  intro r l
  pointwise [k0_pay14, k0_pay13, k0_pay10, k0_pay9, k0_pay8]
  rw [hgc, hxt, hdy, hq2, hq1, hw0, hw1, hw2, mul_coe]
  simp only [mul_coe, add_coe]
  rfl

include hgb hxt hdy hn1 hn2 hw0 hw1 hw2 in
/-- The gradient of the input's gate. -/
theorem dgc : Holds (k0_pay19 (k0_pay9 xt) (k0_pay15 (k0_pay7 gb) dy) w2 w1 n1 w0 n2)
    fun r l => three (W2 l) (W1 l) (W0 l) (DY r l * GB r l) (N1 r l) (N2 r l) * XT r l := by
  intro r l
  pointwise [k0_pay19, k0_pay18, k0_pay15, k0_pay13, k0_pay9, k0_pay7]
  rw [hgb, hxt, hdy, hn1, hn2, hw0, hw1, hw2, mul_coe]
  simp only [mul_coe, add_coe]
  rfl

include hgb hgc hdy hn1 hn2 hw0 hw1 hw2 in
/-- The gradient of the signal. -/
theorem dxt : Holds (k0_pay20 (k0_pay8 gc) (k0_pay15 (k0_pay7 gb) dy) w2 w1 n1 w0 n2)
    fun r l => three (W2 l) (W1 l) (W0 l) (DY r l * GB r l) (N1 r l) (N2 r l) * GC r l := by
  intro r l
  pointwise [k0_pay20, k0_pay18, k0_pay15, k0_pay13, k0_pay8, k0_pay7]
  rw [hgb, hgc, hdy, hn1, hn2, hw0, hw1, hw2, mul_coe]
  simp only [mul_coe, add_coe]
  rfl

include hgb hdy hq2 in
/-- What the block adds to the gradient of a tap: the first tap's, -/
theorem tap0 (v : Vec Ideal S1x256 .f32) (l : Fin 256) : k0_pay21 q2 (k0_pay15 (k0_pay7 gb) dy) v (ix2 0 l)
    = v (ix2 0 l) + ((∑ r, DY r l * GB r l * Q2 r l : ℝ) : EReal) := by
  have h := dyc hgb hdy
  pointwise [k0_pay21]
  rw [sum_mul (fun k => h _ _) fun k => hq2 _ _]

include hgb hdy hq1 in
/-- the second's, -/
theorem tap1 (v : Vec Ideal S1x256 .f32) (l : Fin 256) : k0_pay22 q1 (k0_pay15 (k0_pay7 gb) dy) v (ix2 0 l)
    = v (ix2 0 l) + ((∑ r, DY r l * GB r l * Q1 r l : ℝ) : EReal) := by
  have h := dyc hgb hdy
  pointwise [k0_pay22]
  rw [sum_mul (fun k => h _ _) fun k => hq1 _ _]

include hgb hgc hxt hdy in
/-- and the third's. -/
theorem tap2 (v : Vec Ideal S1x256 .f32) (l : Fin 256) : k0_pay23 (k0_pay10 gc xt) (k0_pay15 (k0_pay7 gb) dy) v (ix2 0 l)
    = v (ix2 0 l) + ((∑ r, DY r l * GB r l * (GC r l * XT r l) : ℝ) : EReal) := by
  have h := dyc hgb hdy
  have h' := q hgc hxt
  pointwise [k0_pay23]
  rw [sum_mul (fun k => h _ _) fun k => h' _ _]

/-! The product with the input projection's transpose, and the normalisation's gradient. -/

theorem dh {dp : Vec Ideal S512x3072 .bf16} {wt : Vec Ideal S3072x1024 .bf16} {E W} (hE : Holds dp E) (hW : Holds wt W) :
    Holds (k0_pay83 dp wt) fun r l => ∑ j, E r j * W j l := by
  intro r l
  pointwise [k0_pay83]
  exact sum_mul (fun k => hE _ _) fun k => hW _ _

section
variable {x : Vec Ideal S512x1024 .f32} {X : Fin 512 → Fin 1024 → ℝ} (hX : Holds x X)
  {n : Ideal .f32} (hn : n = ((1024 : ℝ) : EReal))
include hX hn

theorem rs (r : Fin 512) : k0_pay1 (k0_pay86 x) n (ix2 r 0) = ((Norm.rs (X r) : ℝ) : EReal) := by
  pointwise [k0_pay1, k0_pay86, k0_pay85]
  rw [sum_mul (fun k => hX _ _) fun k => hX _ _]
  rw [hn, f32_eps, div_coe' (by norm_num), add_coe]
  exact rsqrt_coe' (Norm.ms_pos _)

theorem xhat : Holds (k0_pay2 (k0_pay85 x) (k0_pay86 x) n) fun r l => X r l * Norm.rs (X r) := by
  intro r l
  have h := rs hX hn r
  pointwise [k0_pay2, k0_pay85]
  rw [h, hX, mul_coe]

variable {d : FVec Ideal S512x1024 .f32} {H : Fin 512 → Fin 1024 → ℝ} (hH : Holds d H)
include hH

theorem gain (v : Vec Ideal S1x1024 .f32) (l : Fin 1024) :
    k0_pay3 d (k0_pay85 x) (k0_pay86 x) n v (ix2 0 l)
      = v (ix2 0 l) + ((∑ r, H r l * (X r l * Norm.rs (X r)) : ℝ) : EReal) := by
  have h := xhat hX hn
  pointwise [k0_pay3]
  rw [sum_mul (fun k => hH _ _) fun k => h _ _]

variable {g : Vec Ideal S1x1024 .f32} {z : Vec Ideal S1x1 .f32} {res : Vec Ideal S512x1024 .f32}
  {G : Fin 1024 → ℝ} {D : Fin 512 → Fin 1024 → ℝ}
  (hg : ∀ l, g (ix2 0 l) = ((G l : ℝ) : EReal)) (hz : z (ix2 0 0) = 0) (hD : Holds res D)
include hg hz hD

theorem stream : Holds (k0_pay4 d (k0_pay84 g z) (k0_pay85 x) (k0_pay86 x) n res)
    fun r l => D r l + Norm.grad (X r) (fun l => H r l * G l) l := by
  intro r l
  have h := xhat hX hn
  have h' := rs hX hn
  pointwise [k0_pay4, k0_pay84]
  rw [hz, hD]
  simp only [add_zero, hH _ _, hg, h _ _, h', mul_coe, sum_coe]
  rw [f32_1024, div_coe' (by norm_num), mul_coe, sub_coe, mul_coe, add_coe]
  rfl
end

end Cert.ConvIdeal.Body

end
-- ==== Proof.ConvHost.lean ====
/- What the kernel's operands hold when it starts, on real arguments: the blocks of one grid point, 512 tokens, and the rows of
   its two neighbours. -/
module

public import proofs.«01_k».proof.Proof.ConvBody
public import proofs.«01_k».proof.Proof.Gen.ConvIdeal.Value
public import Idealize.ShloMosaic.Lib.Pipeline.ValueKit
public import Idealize.ShloMosaic.Lib.Claim

@[expose] public section

set_option maxRecDepth 16384

noncomputable section

namespace Cert.ConvIdeal.Host

open Idealize.ShloMosaic Idealize.ShloMosaic.TcCoe Idealize.SL.Sem
open Cert.ConvIdeal Cert.ConvIdeal.Gen Cert.Lift Cert.ShortConv
open Cert.Swiglu hiding Args

/-- The RMS normalisation of the stream, with the gain, through the input projection. -/
def proj (x : FVec Ideal S2x2048x1024 .f32) (g : FVec Ideal S1024 .f32) (w : FVec Ideal S1024x3072 .f32) : FVec Ideal S4096x3072 .bf16 :=
  let x := shapeCast _ x shapeCasts_S2x2048x1024_S4096x1024
  truncf .bf16 (Idealize.ShloMosaic.Host.dotGeneral dot_S4096x1024_S1024x3072_S4096x3072_1_0_0_1_n_n none
    (mulf (mulf x (broadcastInDim S4096x1024 ![0, 1] bcast_S4096x1_S4096x1024_0_1
      (Idealize.ShloMosaic.Host.rsqrt (addf
        (Idealize.ShloMosaic.Host.divf (broadcastInDim S4096x1 ![0] bcast_S4096_S4096x1_0
            (Idealize.ShloMosaic.Host.reduceAdd (mulf x x) (constant S_ .f32 0x00000000#32) reducesTo_S4096x1024_S4096_d1 h_S_))
          (broadcastInDim S4096x1 ![] bcast_S_S4096x1 (constant S_ .f32 0x44800000#32)))
        (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))) w)
    bitsLt_bf16_f32

section
variable (m : (ℓ : Loc nD τ sig) → Buf (Elt Ideal) ℓ) (c : Dev nD)

theorem V_v15 : V m c main_v15 = proj (m ((c : Thread nD τ).loc main_arg0)) (m ((c : Thread nD τ).loc main_arg1))
    (m ((c : Thread nD τ).loc main_arg2)) := by
  unfold V; after_results; try rfl
end

theorem split_tok (t : Fin 4096) (k : Fin 1024) (h) (h') (b : (⟨3, ![2, 2048, 1024]⟩ : Shape).Idx → ℝ) :
    up b (ix3 (⟨t.val / 2048, h⟩ : Fin 2) (⟨t.val % 2048, h'⟩ : Fin 2048) k) = ((tok b t k : ℝ) : EReal) := rfl

theorem proj_real (a : Args) : Holds (proj (up a.x) (up a.g) (up a.w)) a.p := by
  intro t j
  pointwise [proj]
  refine sum_mul (p := fun k => xhat (tok a.x) t k * vec a.g k) (fun k => ?_) fun k => up_mat a.w _
  rw [sum_mul (fun k => split_tok _ _ _ _ a.x) fun k => split_tok _ _ _ _ a.x, f32_1024, f32_eps, div_coe' (by norm_num), add_coe]
  rw [show (∑ k, tok a.x t k * tok a.x t k) / 1024 + eps = Norm.ms (tok a.x t) from rfl, rsqrt_coe' (Norm.ms_pos _), split_tok, mul_coe]
  exact mul_coe _ _

/-- The kernel's arguments are the real arrays `a`. -/
structure Given (m : (ℓ : Loc nD τ sig) → Buf (Elt Ideal) ℓ) (c : Dev nD) (a : Args) : Prop where
  x : m ((c : Thread nD τ).loc main_arg0) = up a.x
  g : m ((c : Thread nD τ).loc main_arg1) = up a.g
  w : m ((c : Thread nD τ).loc main_arg2) = up a.w
  cw : m ((c : Thread nD τ).loc main_arg3) = up a.cw
  dy : m ((c : Thread nD τ).loc main_arg4) = up a.dy
  dres : m ((c : Thread nD τ).loc main_arg5) = up a.dres

variable {m : (ℓ : Loc nD τ sig) → Buf (Elt Ideal) ℓ} {c : Dev nD} {a : Args} (h : Given m c a)

/-- The windows' index maps: the token blocks move with the point, the neighbours' rows run ahead and behind, the weights stay. -/
theorem idx : ∀ t : Fin cfg0.N, win0_0.index t = ![t.val, 0] ∧ win0_1.index t = ![t.val * 32 - 1, 0]
    ∧ win0_2.index t = ![min (t.val * 32 + 32) 255, 0] ∧ win0_3.index t = ![t.val, 0]
    ∧ win0_4.index t = ![min (t.val * 32 + 32) 255, 0] ∧ win0_5.index t = ![0, 0] ∧ win0_6.index t = ![0, 0]
    ∧ win0_7.index t = ![t.val, 0] ∧ win0_8.index t = ![0, 0] ∧ win0_9.index t = ![0, 0] ∧ win0_10.index t = ![t.val, 0]
    ∧ win0_11.index t = ![t.val, 0] ∧ win0_12.index t = ![0, 0] ∧ win0_13.index t = ![t.val, 0]
    ∧ win0_14.index t = ![0, 0] :=
  (by decide +kernel : ∀ t : Fin grid0.N, _)

/-- The token of row `r` of point `t`'s blocks, -/
def row (t : Fin cfg0.N) (r : Fin 512) : Fin 4096 :=
  ⟨t.val * 512 + r.val, by have := N_0; have : t.val < grid0.N := t.isLt; omega⟩

/-- of row `r` of the rows ahead of them, -/
def before (t : Fin cfg0.N) (r : Fin 16) : Fin 4096 :=
  ⟨(t.val * 32 - 1) * 16 + r.val, by have := N_0; have : t.val < grid0.N := t.isLt; omega⟩

/-- and of row `r` of the rows behind them. -/
def behind (t : Fin cfg0.N) (r : Fin 16) : Fin 4096 :=
  ⟨min (t.val * 32 + 32) 255 * 16 + r.val, by have := N_0; have : t.val < grid0.N := t.isLt; omega⟩

theorem place0 (t : Fin cfg0.N) (r : Fin 512) (k : Fin 3072) : (win0_0.blk t).view.emb (ix2 r k) = ix2 (row t r) k := by
  blk_ext [idx t, row]

theorem place1 (t : Fin cfg0.N) (r : Fin 16) (k : Fin 3072) : (win0_1.blk t).view.emb (ix2 r k) = ix2 (before t r) k := by
  blk_ext [idx t, before]

theorem place2 (t : Fin cfg0.N) (r : Fin 16) (k : Fin 3072) : (win0_2.blk t).view.emb (ix2 r k) = ix2 (behind t r) k := by
  blk_ext [idx t, behind]

theorem place3 (t : Fin cfg0.N) (r : Fin 512) (k : Fin 1024) : (win0_3.blk t).view.emb (ix2 r k) = ix2 (row t r) k := by
  blk_ext [idx t, row]

theorem place4 (t : Fin cfg0.N) (r : Fin 16) (k : Fin 1024) : (win0_4.blk t).view.emb (ix2 r k) = ix2 (behind t r) k := by
  blk_ext [idx t, behind]

theorem place5 (t : Fin cfg0.N) (r : Fin 3) (k : Fin 1024) : (win0_5.blk t).view.emb (ix2 r k) = ix2 r k := by
  blk_ext [idx t, row]

theorem place6 (t : Fin cfg0.N) (r : Fin 3072) (k : Fin 1024) : (win0_6.blk t).view.emb (ix2 r k) = ix2 r k := by
  blk_ext [idx t, row]

theorem place7 (t : Fin cfg0.N) (r : Fin 512) (k : Fin 1024) : (win0_7.blk t).view.emb (ix2 r k) = ix2 (row t r) k := by
  blk_ext [idx t, row]

theorem place8 (t : Fin cfg0.N) (r : Fin 1) (k : Fin 1024) : (win0_8.blk t).view.emb (ix2 r k) = ix2 r k := by
  blk_ext [idx t, row]

theorem place9 (t : Fin cfg0.N) (r : Fin 8) (k : Fin 128) : (win0_9.blk t).view.emb (ix2 r k) = ix2 r k := by
  blk_ext [idx t, row]

theorem place10 (t : Fin cfg0.N) (r : Fin 512) (k : Fin 1024) : (win0_10.blk t).view.emb (ix2 r k) = ix2 (row t r) k := by
  blk_ext [idx t, row]

include h

theorem blk0 (t : Fin cfg0.N) : Holds (iblk m c 0 t) fun r j => a.p (row t r) j := by
  intro r k
  blk_simp [iblk]
  rw [place0, V_v15 m c, h.x, h.g, h.w]
  exact proj_real a _ _

theorem blk1 (t : Fin cfg0.N) : Holds (iblk m c 1 t) fun r j => a.p (before t r) j := by
  intro r k
  blk_simp [iblk]
  rw [place1, V_v15 m c, h.x, h.g, h.w]
  exact proj_real a _ _

theorem blk2 (t : Fin cfg0.N) : Holds (iblk m c 2 t) fun r j => a.p (behind t r) j := by
  intro r k
  blk_simp [iblk]
  rw [place2, V_v15 m c, h.x, h.g, h.w]
  exact proj_real a _ _

theorem blk3 (t : Fin cfg0.N) : Holds (iblk m c 3 t) fun r k => tok a.dy (row t r) k := by
  intro r k
  blk_simp [iblk]
  rw [place3]
  entry_read
  pointwise
  rw [h.dy]
  rfl

theorem blk4 (t : Fin cfg0.N) : Holds (iblk m c 4 t) fun r k => tok a.dy (behind t r) k := by
  intro r k
  blk_simp [iblk]
  rw [place4]
  entry_read
  pointwise
  rw [h.dy]
  rfl

theorem blk5 (t : Fin cfg0.N) : Holds (iblk m c 5 t) (mat a.cw) := by
  intro r k
  blk_simp [iblk]
  rw [place5]
  entry_read
  pointwise
  rw [h.cw]
  exact up_mat a.cw _

theorem blk6 (t : Fin cfg0.N) : Holds (iblk m c 6 t) fun j k => mat a.w k j := by
  intro r k
  blk_simp [iblk]
  rw [place6]
  entry_read
  pointwise
  rw [h.w]
  exact up_mat a.w _

theorem blk7 (t : Fin cfg0.N) : Holds (iblk m c 7 t) fun r k => tok a.x (row t r) k := by
  intro r k
  blk_simp [iblk]
  rw [place7]
  entry_read
  pointwise
  rw [h.x]
  rfl

theorem blk8 (t : Fin cfg0.N) : Holds (iblk m c 8 t) fun _ k => vec a.g k := by
  intro r k
  blk_simp [iblk]
  rw [place8]
  entry_read
  pointwise
  rw [h.g]
  exact up_vec a.g _

theorem blk9 (t : Fin cfg0.N) (r : Fin 8) (k : Fin 128) : (iblk m c 9 t : FVec Ideal S8x128 .f32) (ix2 r k) = (0 : EReal) := by
  blk_simp [iblk]
  rw [place9]
  entry_read
  pointwise

theorem blk10 (t : Fin cfg0.N) : Holds (iblk m c 10 t) fun r k => tok a.dres (row t r) k := by
  intro r k
  blk_simp [iblk]
  rw [place10]
  entry_read
  pointwise
  rw [h.dres]
  rfl

end Cert.ConvIdeal.Host

end
-- ==== Proof.ConvPoint.lean ====
/- One grid point of the kernel: the rows that its scratch buffers hand back, and the gradients of one group of 256 channels. -/
module

public import proofs.«01_k».proof.Proof.ConvHost

@[expose] public section

set_option maxRecDepth 16384

noncomputable section

namespace Cert.ConvIdeal.Point

open Idealize.ShloMosaic Idealize.ShloMosaic.TcCoe Idealize.SL.Sem
open Cert.ConvIdeal Cert.ConvIdeal.Gen Cert.Lift Cert.ShortConv Cert.ConvIdeal.Host
open Cert.Swiglu hiding Args

theorem fits {n n' m m' o o' : ℕ} (h : o + n' ≤ n) (h' : o' + m' ≤ m) :
    ∀ a, (![o, o'] : Fin 2 → ℕ) a + (![n', m'] : Fin 2 → ℕ) a ≤ (⟨2, ![n, m]⟩ : Shape).size a := by
  intro a; fin_cases a
  · exact h
  · exact h'

/-! The scratch buffers: 512 rows with 16 more ahead of them, or behind them, read back some rows off. -/

/-- 512 rows, the first `n` of them the last rows of `H`, then those of `Q`. -/
def ahead (n : ℕ) (hn : n ≤ 16) (H : S16x256.Idx → EReal) (Q : S512x256.Idx → EReal) : S512x256.Idx → EReal := fun y =>
  if h : (y 0).val < n then H (ix2 (⟨(y 0).val + 16 - n, by omega⟩ : Fin 16) (y 1))
  else Q (ix2 (⟨(y 0).val - n, by have : (y 0).val < 512 := (y 0).isLt; omega⟩ : Fin 512) (y 1))

/-- The rows of `Q` from row `n` on, then the first `n` of `H`. -/
def astern (n : ℕ) (hn : n ≤ 16) (Q : S512x256.Idx → EReal) (H : S16x256.Idx → EReal) : S512x256.Idx → EReal := fun y =>
  if h : (y 0).val + n < 512 then Q (ix2 (⟨(y 0).val + n, h⟩ : Fin 512) (y 1))
  else H (ix2 (⟨(y 0).val + n - 512, by have : (y 0).val < 512 := (y 0).isLt; omega⟩ : Fin 16) (y 1))

section
variable {κ : Kind} {sp : Space} (v : View sig κ sp S528x1024 .f32) {c0 o : ℕ}
  (i1 : ∀ a, (![16, c0] : Fin 2 → ℕ) a + ![512, 256] a ≤ S528x1024.size a)
  (i2 : ∀ a, (![0, c0] : Fin 2 → ℕ) a + ![16, 256] a ≤ S528x1024.size a)
  (j1 : ∀ a, (![0, c0] : Fin 2 → ℕ) a + ![512, 256] a ≤ S528x1024.size a)
  (j2 : ∀ a, (![512, c0] : Fin 2 → ℕ) a + ![16, 256] a ≤ S528x1024.size a)
  (i3 : ∀ a, (![o, c0] : Fin 2 → ℕ) a + ![512, 256] a ≤ S528x1024.size a)
  (Q : S512x256.Idx → EReal) (H : S16x256.Idx → EReal) (L : List (View.Piece (Elt Ideal) S528x1024 .f32))

theorem read_ahead (ho : o ≤ 16) :
    v.readCov (Val := Elt Ideal) (⟨Rect.unit (s := S528x1024) ![16, c0] ![512, 256] i1, Q⟩
        :: ⟨Rect.unit (s := S528x1024) ![0, c0] ![16, 256] i2, H⟩ :: L)
      (Rect.unit (s := S528x1024) ![o, c0] ![512, 256] i3).toLoadRect = ahead (16 - o) (by omega) H Q := by
  rw [View.readCov_eq_canon']
  funext y
  have hy : (y 0).val < 512 := (y 0).isLt
  have e0 : (((Rect.unit (s := S528x1024) ![o, c0] ![512, 256] i3).toLoadRect.idx y) 0).val = o + (y 0).val := by
    show o + 1 * (y 0).val = _; omega
  unfold ahead
  split
  · rename_i h
    have e : (Rect.unit (s := S528x1024) ![o, c0] ![512, 256] i3).toLoadRect.idx y
        = (Rect.unit (s := S528x1024) ![0, c0] ![16, 256] i2).emb
          (ix2 (⟨(y 0).val + 16 - (16 - o), by omega⟩ : Fin 16) (y 1)) := by
      funext a; apply Fin.ext
      fin_cases a
      · show o + 1 * (y 0).val = 0 + 1 * ((y 0).val + 16 - (16 - o)); omega
      · rfl
    rw [View.canon_cons_of_not_mem, e]
    · exact View.canon_cons_emb (Val := Elt Ideal) (e := .f32) (Rect.unit (s := S528x1024) ![0, c0] ![16, 256] i2) H L _
    · intro hm
      have := (Rect.mem_set_unit (inb := i1).mp hm 0).1
      rw [e0] at this
      have : 16 ≤ o + (y 0).val := this
      omega
  · rename_i h
    have e : (Rect.unit (s := S528x1024) ![o, c0] ![512, 256] i3).toLoadRect.idx y
        = (Rect.unit (s := S528x1024) ![16, c0] ![512, 256] i1).emb
          (ix2 (⟨(y 0).val - (16 - o), by omega⟩ : Fin 512) (y 1)) := by
      funext a; apply Fin.ext
      fin_cases a
      · show o + 1 * (y 0).val = 16 + 1 * ((y 0).val - (16 - o)); omega
      · rfl
    rw [e]
    exact View.canon_cons_emb (Val := Elt Ideal) (e := .f32) (Rect.unit (s := S528x1024) ![16, c0] ![512, 256] i1) Q _ _

theorem read_astern (ho : o ≤ 16) :
    v.readCov (Val := Elt Ideal) (⟨Rect.unit (s := S528x1024) ![512, c0] ![16, 256] j2, H⟩
        :: ⟨Rect.unit (s := S528x1024) ![0, c0] ![512, 256] j1, Q⟩ :: L)
      (Rect.unit (s := S528x1024) ![o, c0] ![512, 256] i3).toLoadRect = astern o ho Q H := by
  rw [View.readCov_eq_canon']
  funext y
  have hy : (y 0).val < 512 := (y 0).isLt
  have e0 : (((Rect.unit (s := S528x1024) ![o, c0] ![512, 256] i3).toLoadRect.idx y) 0).val = o + (y 0).val := by
    show o + 1 * (y 0).val = _; omega
  unfold astern
  split
  · rename_i h
    have e : (Rect.unit (s := S528x1024) ![o, c0] ![512, 256] i3).toLoadRect.idx y
        = (Rect.unit (s := S528x1024) ![0, c0] ![512, 256] j1).emb (ix2 (⟨(y 0).val + o, h⟩ : Fin 512) (y 1)) := by
      funext a; apply Fin.ext
      fin_cases a
      · show o + 1 * (y 0).val = 0 + 1 * ((y 0).val + o); omega
      · rfl
    rw [View.canon_cons_of_not_mem, e]
    · exact View.canon_cons_emb (Val := Elt Ideal) (e := .f32) (Rect.unit (s := S528x1024) ![0, c0] ![512, 256] j1) Q L _
    · intro hm
      have := (Rect.mem_set_unit (inb := j2).mp hm 0).1
      rw [e0] at this
      have : 512 ≤ o + (y 0).val := this
      omega
  · rename_i h
    have e : (Rect.unit (s := S528x1024) ![o, c0] ![512, 256] i3).toLoadRect.idx y
        = (Rect.unit (s := S528x1024) ![512, c0] ![16, 256] j2).emb
          (ix2 (⟨(y 0).val + o - 512, by omega⟩ : Fin 16) (y 1)) := by
      funext a; apply Fin.ext
      fin_cases a
      · show o + 1 * (y 0).val = 512 + 1 * ((y 0).val + o - 512); omega
      · rfl
    rw [e]
    exact View.canon_cons_emb (Val := Elt Ideal) (e := .f32) (Rect.unit (s := S528x1024) ![512, c0] ![16, 256] j2) H _ _
end

/-! Of a signal's rows, with zeros at the sequence's start and end. -/
section
variable (t : Fin cfg0.N) {n : ℕ} {f : Fin 4096 → Fin 1024 → ℝ} {c0 : ℕ} {hc : c0 + 256 ≤ 1024}
  {H : S16x256.Idx → EReal} {Q : S512x256.Idx → EReal}
  (hQ : Holds (n := 512) (m := 256) Q fun r l => f (row t r) (from' c0 hc l))
include hQ

theorem prev_ahead (hn : n ≤ 16)
    (hH : Holds (n := 16) (m := 256) H fun r l => if t.val % 4 = 0 then 0 else f (before t r) (from' c0 hc l)) :
    Holds (n := 512) (m := 256) (ahead n hn H Q) fun r l => prev n f (row t r) (from' c0 hc l) := by
  intro r l
  have hr := r.isLt
  have ht : t.val < 8 := t.isLt
  unfold ahead
  by_cases h : r.val < n
  · refine (dif_pos h).trans ((hH ⟨r.val + 16 - n, by omega⟩ l).trans (congrArg (fun x : ℝ => (x : EReal)) ?_))
    show (if _ then 0 else f _ _) = prev n f (row t r) (from' c0 hc l)
    unfold prev
    by_cases h4 : t.val % 4 = 0
    · rw [if_pos h4, if_pos (by show (t.val * 512 + r.val) % 2048 < n; omega)]
    · rw [if_neg h4, if_neg (by show ¬ (t.val * 512 + r.val) % 2048 < n; omega)]
      exact congrArg (f · _) (Fin.ext (by show (t.val * 32 - 1) * 16 + (r.val + 16 - n) = t.val * 512 + r.val - n; omega))
  · refine (dif_neg h).trans ((hQ ⟨r.val - n, by omega⟩ l).trans (congrArg (fun x : ℝ => (x : EReal)) ?_))
    show f _ _ = prev n f (row t r) (from' c0 hc l)
    unfold prev
    rw [if_neg (by show ¬ (t.val * 512 + r.val) % 2048 < n; omega)]
    exact congrArg (f · _) (Fin.ext (by show t.val * 512 + (r.val - n) = t.val * 512 + r.val - n; omega))

theorem next_astern (hn : n ≤ 16)
    (hH : Holds (n := 16) (m := 256) H fun r l => if t.val % 4 = 3 then 0 else f (behind t r) (from' c0 hc l)) :
    Holds (n := 512) (m := 256) (astern n hn Q H) fun r l => next n f (row t r) (from' c0 hc l) := by
  intro r l
  have hr := r.isLt
  have ht : t.val < 8 := t.isLt
  unfold astern
  by_cases h : r.val + n < 512
  · refine (dif_pos h).trans ((hQ ⟨r.val + n, h⟩ l).trans (congrArg (fun x : ℝ => (x : EReal)) ?_))
    show f _ _ = next n f (row t r) (from' c0 hc l)
    unfold next
    rw [dif_pos (by show (t.val * 512 + r.val) % 2048 + n < 2048; omega)]
    exact congrArg (f · _) (Fin.ext (by show t.val * 512 + (r.val + n) = t.val * 512 + r.val + n; omega))
  · refine (dif_neg h).trans ((hH ⟨r.val + n - 512, by omega⟩ l).trans (congrArg (fun x : ℝ => (x : EReal)) ?_))
    show (if _ then 0 else f _ _) = next n f (row t r) (from' c0 hc l)
    unfold next
    by_cases h4 : t.val % 4 = 3
    · rw [if_pos h4, dif_neg (by show ¬ (t.val * 512 + r.val) % 2048 + n < 2048; omega)]
    · rw [if_neg h4, dif_pos (by show (t.val * 512 + r.val) % 2048 + n < 2048; omega)]
      exact congrArg (f · _) (Fin.ext (by
        show min (t.val * 32 + 32) 255 * 16 + (r.val + n - 512) = t.val * 512 + r.val + n; omega))
end

/-- The bit of a point whose number within its sequence is `e`. -/
def edge (i : ℕ) (e : BitVec 32) : BitVec 1 :=
  let n : BitVec 32 := Scalar.select (Scalar.cmpi .eq 4#32 0#32) 1#32 4#32
  let r : BitVec 32 := Scalar.remsi (BitVec.ofNat 32 i) n
  Scalar.cmpi .eq (Scalar.select (Scalar.andi (Scalar.xori (Scalar.cmpi .slt r 0#32) (Scalar.cmpi .slt n 0#32))
    (Scalar.cmpi .ne r 0#32)) (Scalar.addi r n) r) e

theorem first_bit : ∀ t : Fin cfg0.N, edge (grid0.coords t 0).val 0#32 = if t.val % 4 = 0 then 1#1 else 0#1 :=
  (by decide +kernel : ∀ t : Fin grid0.N, _)

theorem last_bit : ∀ t : Fin cfg0.N, edge (grid0.coords t 0).val 3#32 = if t.val % 4 = 3 then 1#1 else 0#1 :=
  (by decide +kernel : ∀ t : Fin grid0.N, _)

/-! The three parts of the input projection, loaded from a block of its rows. -/
section
variable {a : Args} {n : ℕ} {v : (⟨2, ![n, 3072]⟩ : Shape).Idx → EReal} {f : Fin n → Fin 4096}
  (hv : Holds v fun r j => a.p (f r) j) {c0 : ℕ} (hc : c0 + 256 ≤ 1024)
include hv

theorem gb_part (inb) : Holds (n := n) (m := 256)
    (fun y => v ((Rect.unit (s := ⟨2, ![n, 3072]⟩) ![0, c0] ![n, 256] inb).idx y)) fun r l => a.gb (f r) (from' c0 hc l) :=
  fun r l => (hv.cols inb (by omega) r l).trans (congrArg (fun j => ((a.p (f r) j : ℝ) : EReal))
    (Fin.ext (by show c0 + l.val = 0 + (c0 + l.val); omega)))

theorem gc_part (inb) : Holds (n := n) (m := 256)
    (fun y => v ((Rect.unit (s := ⟨2, ![n, 3072]⟩) ![0, 1024 + c0] ![n, 256] inb).idx y))
    fun r l => a.gc (f r) (from' c0 hc l) :=
  fun r l => (hv.cols inb (by omega) r l).trans (congrArg (fun j => ((a.p (f r) j : ℝ) : EReal))
    (Fin.ext (by show 1024 + c0 + l.val = 1024 + (c0 + l.val); omega)))

theorem xt_part (inb) : Holds (n := n) (m := 256)
    (fun y => v ((Rect.unit (s := ⟨2, ![n, 3072]⟩) ![0, 2048 + c0] ![n, 256] inb).idx y))
    fun r l => a.xt (f r) (from' c0 hc l) :=
  fun r l => (hv.cols inb (by omega) r l).trans (congrArg (fun j => ((a.p (f r) j : ℝ) : EReal))
    (Fin.ext (by show 2048 + c0 + l.val = 2048 + (c0 + l.val); omega)))
end

/-- What a group of channels from `c0` on finds at point `t`. -/
structure Group (a : Args) (t : Fin cfg0.N) (c0 : ℕ) (hc : c0 + 256 ≤ 1024) (gb gc xt dy : Vec Ideal S512x256 .bf16)
    (q2 q1 n1 n2 : Vec Ideal S512x256 .f32) (w0 w1 w2 : Vec Ideal S1x256 .f32) : Prop where
  gb : Holds gb fun r l => a.gb (row t r) (from' c0 hc l)
  gc : Holds gc fun r l => a.gc (row t r) (from' c0 hc l)
  xt : Holds xt fun r l => a.xt (row t r) (from' c0 hc l)
  dy : Holds dy fun r l => tok a.dy (row t r) (from' c0 hc l)
  q2 : Holds q2 fun r l => a.q2 (row t r) (from' c0 hc l)
  q1 : Holds q1 fun r l => a.q1 (row t r) (from' c0 hc l)
  n1 : Holds n1 fun r l => next 1 a.dyc (row t r) (from' c0 hc l)
  n2 : Holds n2 fun r l => next 2 a.dyc (row t r) (from' c0 hc l)
  w0 : Holds w0 fun _ l => mat a.cw 0 (from' c0 hc l)
  w1 : Holds w1 fun _ l => mat a.cw 1 (from' c0 hc l)
  w2 : Holds w2 fun _ l => mat a.cw 2 (from' c0 hc l)

namespace Group
variable {a : Args} {t : Fin cfg0.N} {c0 : ℕ} {hc : c0 + 256 ≤ 1024} {gb gc xt dy : Vec Ideal S512x256 .bf16}
  {q2 q1 n1 n2 : Vec Ideal S512x256 .f32} {w0 w1 w2 : Vec Ideal S1x256 .f32}
  (s : Group a t c0 hc gb gc xt dy q2 q1 n1 n2 w0 w1 w2)
include s

theorem dgb : Holds (k0_pay14 (k0_pay10 gc xt) q2 q1 w0 w1 w2 dy)
    fun r l => a.dp (row t r) (from' c0 (by omega) l) := fun r l =>
  (Body.dgb s.gc s.xt s.dy s.q2 s.q1 s.w0 s.w1 s.w2 r l).trans (congrArg (fun x : ℝ => (x : EReal))
    ((congrArg (a.dp (row t r)) (Fin.ext (by show c0 + l.val = 0 + (c0 + l.val); omega))).trans
      (a.dp_lo (row t r) (from' c0 hc l) (by omega))).symm)

theorem dgc : Holds (k0_pay19 (k0_pay9 xt) (k0_pay15 (k0_pay7 gb) dy) w2 w1 n1 w0 n2)
    fun r l => a.dp (row t r) (from' (1024 + c0) (by omega) l) := fun r l =>
  (Body.dgc s.gb s.xt s.dy s.n1 s.n2 s.w0 s.w1 s.w2 r l).trans (congrArg (fun x : ℝ => (x : EReal))
    ((congrArg (a.dp (row t r)) (Fin.ext (by show 1024 + c0 + l.val = 1024 + (c0 + l.val); omega))).trans
      (a.dp_mid (row t r) (from' c0 hc l) (by omega))).symm)

theorem dxt : Holds (k0_pay20 (k0_pay8 gc) (k0_pay15 (k0_pay7 gb) dy) w2 w1 n1 w0 n2)
    fun r l => a.dp (row t r) (from' (2048 + c0) (by omega) l) := fun r l =>
  (Body.dxt s.gb s.gc s.dy s.n1 s.n2 s.w0 s.w1 s.w2 r l).trans (congrArg (fun x : ℝ => (x : EReal))
    ((congrArg (a.dp (row t r)) (Fin.ext (by show 2048 + c0 + l.val = 2048 + (c0 + l.val); omega))).trans
      (a.dp_hi (row t r) (from' c0 hc l) (by omega))).symm)

/-- What the point adds to the gradients of the three taps. -/
theorem tap0 (v : Vec Ideal S1x256 .f32) (l : Fin 256) : k0_pay21 q2 (k0_pay15 (k0_pay7 gb) dy) v (ix2 0 l)
    = v (ix2 0 l) + ((∑ r, a.dyc (row t r) (from' c0 hc l) * a.seen 0 (row t r) (from' c0 hc l) : ℝ) : EReal) :=
  Body.tap0 s.gb s.dy s.q2 v l

theorem tap1 (v : Vec Ideal S1x256 .f32) (l : Fin 256) : k0_pay22 q1 (k0_pay15 (k0_pay7 gb) dy) v (ix2 0 l)
    = v (ix2 0 l) + ((∑ r, a.dyc (row t r) (from' c0 hc l) * a.seen 1 (row t r) (from' c0 hc l) : ℝ) : EReal) :=
  Body.tap1 s.gb s.dy s.q1 v l

theorem tap2 (v : Vec Ideal S1x256 .f32) (l : Fin 256) : k0_pay23 (k0_pay10 gc xt) (k0_pay15 (k0_pay7 gb) dy) v (ix2 0 l)
    = v (ix2 0 l) + ((∑ r, a.dyc (row t r) (from' c0 hc l) * a.seen 2 (row t r) (from' c0 hc l) : ℝ) : EReal) :=
  Body.tap2 s.gb s.gc s.xt s.dy v l
end Group

/-! A group's loads, and that they find it. -/
section
variable (m : (ℓ : Loc nD τ sig) → Buf (Elt Ideal) ℓ) (c : Dev nD) (t : Fin cfg0.N) (c0 : ℕ) (hc : c0 + 256 ≤ 1024)

def gbOf : Vec Ideal S512x256 .bf16 := fun y =>
  iblk m c 0 t ((Rect.unit (s := S512x3072) ![0, c0] S512x256.size (fits (by omega) (by omega))).idx y)
def gcOf : Vec Ideal S512x256 .bf16 := fun y =>
  iblk m c 0 t ((Rect.unit (s := S512x3072) ![0, 1024 + c0] S512x256.size (fits (by omega) (by omega))).idx y)
def xtOf : Vec Ideal S512x256 .bf16 := fun y =>
  iblk m c 0 t ((Rect.unit (s := S512x3072) ![0, 2048 + c0] S512x256.size (fits (by omega) (by omega))).idx y)
def dyOf : Vec Ideal S512x256 .bf16 := fun y =>
  iblk m c 3 t ((Rect.unit (s := S512x1024) ![0, c0] S512x256.size (fits (by omega) (by omega))).idx y)
def gcAhead : Vec Ideal S16x256 .bf16 := fun y =>
  iblk m c 1 t ((Rect.unit (s := S16x3072) ![0, 1024 + c0] S16x256.size (fits (by omega) (by omega))).idx y)
def xtAhead : Vec Ideal S16x256 .bf16 := fun y =>
  iblk m c 1 t ((Rect.unit (s := S16x3072) ![0, 2048 + c0] S16x256.size (fits (by omega) (by omega))).idx y)
def gbBehind : Vec Ideal S16x256 .bf16 := fun y =>
  iblk m c 2 t ((Rect.unit (s := S16x3072) ![0, c0] S16x256.size (fits (by omega) (by omega))).idx y)
def dyBehind : Vec Ideal S16x256 .bf16 := fun y =>
  iblk m c 4 t ((Rect.unit (s := S16x1024) ![0, c0] S16x256.size (fits (by omega) (by omega))).idx y)
def tapOf (i : ℕ) (hi : i < 3) : Vec Ideal S1x256 .f32 := fun y =>
  iblk m c 5 t ((Rect.unit (s := S3x1024) ![i, c0] S1x256.size (fits (by omega) (by omega))).idx y)

/-- The gated signal, read `n` rows back, -/
def qBack (n : ℕ) (hn : n ≤ 16) : Vec Ideal S512x256 .f32 :=
  ahead n hn (k0_pay11 (edge (grid0.coords t 0).val 0#32) (gcAhead m c t c0 hc) (xtAhead m c t c0 hc))
    (k0_pay12 (k0_pay10 (gcOf m c t c0 hc) (xtOf m c t c0 hc)))

/-- and the gradient of the convolution's output, read `n` rows on. -/
def dycOn (n : ℕ) (hn : n ≤ 16) : Vec Ideal S512x256 .f32 :=
  astern n hn (k0_pay16 (k0_pay15 (k0_pay7 (gbOf m c t c0 hc)) (dyOf m c t c0 hc)))
    (k0_pay17 (edge (grid0.coords t 0).val 3#32) (dyBehind m c t c0 hc) (gbBehind m c t c0 hc))

variable {m c} {a : Args} (h : Given m c a)
include h

theorem holds_q {n : ℕ} (hn : n ≤ 16) : Holds (qBack m c t c0 hc n hn) fun r l => prev n a.q (row t r) (from' c0 hc l) :=
  prev_ahead t (f := a.q) (Body.q_st (gc_part (blk0 h t) hc _) (xt_part (blk0 h t) hc _)) hn
    (Body.halo (first_bit t) (gc_part (blk1 h t) hc _) (xt_part (blk1 h t) hc _))

theorem holds_dyc {n : ℕ} (hn : n ≤ 16) :
    Holds (dycOn m c t c0 hc n hn) fun r l => next n a.dyc (row t r) (from' c0 hc l) :=
  next_astern t (f := a.dyc) (Body.dyc_st (gb_part (blk0 h t) hc _) ((blk3 h t).cols _ hc)) hn
    (Body.halo' (last_bit t) ((blk4 h t).cols _ hc) (gb_part (blk2 h t) hc _))

theorem holds_tap (i : Fin 3) : Holds (tapOf m c t c0 hc i.val i.isLt) fun _ l => mat a.cw i (from' c0 hc l) :=
  fun r l => ((blk5 h t).part _ (by omega) hc r l).trans (congrArg (fun i => ((mat a.cw i (from' c0 hc l) : ℝ) : EReal))
    (Fin.ext (by show i.val + r.val = i.val; omega)))

theorem group : Group a t c0 hc (gbOf m c t c0 hc) (gcOf m c t c0 hc) (xtOf m c t c0 hc) (dyOf m c t c0 hc)
    (qBack m c t c0 hc (16 - 14) (by omega)) (qBack m c t c0 hc (16 - 15) (by omega)) (dycOn m c t c0 hc 1 (by omega))
    (dycOn m c t c0 hc 2 (by omega)) (tapOf m c t c0 hc 0 (by omega)) (tapOf m c t c0 hc 1 (by omega))
    (tapOf m c t c0 hc 2 (by omega)) where
  gb := gb_part (blk0 h t) hc _
  gc := gc_part (blk0 h t) hc _
  xt := xt_part (blk0 h t) hc _
  dy := (blk3 h t).cols _ hc
  q2 := holds_q t c0 hc h _
  q1 := holds_q t c0 hc h _
  n1 := holds_dyc t c0 hc h _
  n2 := holds_dyc t c0 hc h _
  w0 := holds_tap t c0 hc h 0
  w1 := holds_tap t c0 hc h 1
  w2 := holds_tap t c0 hc h 2
end

/-- A block of point `t`'s rows, at an index of the whole array, -/
theorem of_block {n : ℕ} {v : (⟨2, ![512, n]⟩ : Shape).Idx → EReal} {f : Fin 4096 → Fin n → ℝ} {t : Fin cfg0.N}
    (hv : Holds v fun r l => f (row t r) l) (y : (⟨2, ![512, n]⟩ : Shape).Idx) (i : Fin 4096) (j : Fin n)
    (hi : i.val = t.val * 512 + (y 0).val) (hj : j.val = (y 1).val) : v y = ((f i j : ℝ) : EReal) := by
  have e : v y = v (ix2 (y 0) (y 1)) := congrArg v (eq_ix2 y)
  refine e.trans ((hv (y 0) (y 1)).trans (congrArg (fun x : ℝ => (x : EReal)) ?_))
  exact congrArg₂ f (Fin.ext hi.symm) (Fin.ext hj.symm)

/-- and a part of its columns. -/
theorem of_part {n n' o : ℕ} {v : (⟨2, ![512, n']⟩ : Shape).Idx → EReal} {f : Fin 4096 → Fin n → ℝ} {t : Fin cfg0.N}
    {ho : o + n' ≤ n} (hv : Holds v fun r l => f (row t r) (from' o ho l)) (x : (⟨2, ![512, n']⟩ : Shape).Idx)
    (i : Fin 4096) (j : Fin n) (hi : i.val = t.val * 512 + (x 0).val) (hj : j.val = o + (x 1).val) :
    v x = ((f i j : ℝ) : EReal) := by
  have e : v x = v (ix2 (x 0) (x 1)) := congrArg v (eq_ix2 x)
  refine e.trans ((hv (x 0) (x 1)).trans (congrArg (fun x : ℝ => (x : EReal)) ?_))
  exact congrArg₂ f (Fin.ext hi.symm) (Fin.ext hj.symm)

/-- A tile's entry, at its place in a block. -/
theorem at_tile {v : (⟨2, ![512, 256]⟩ : Shape).Idx → EReal} {F : Fin 512 → Fin 3072 → ℝ} {o : ℕ} {ho : o + 256 ≤ 3072}
    (hv : Holds v fun r l => F r (from' o ho l)) (x : (⟨2, ![512, 256]⟩ : Shape).Idx) {r : Fin 512} {j : Fin 3072}
    (hr : r.val = (x 0).val) (hj : j.val = o + (x 1).val) : v x = ((F r j : ℝ) : EReal) := by
  have e : v x = v (ix2 (x 0) (x 1)) := congrArg v (eq_ix2 x)
  refine e.trans ((hv (x 0) (x 1)).trans (congrArg (fun x : ℝ => (x : EReal)) ?_))
  exact congrArg₂ F (Fin.ext hr.symm) (Fin.ext hj.symm)

/-- Twelve tiles side by side, read back as one block. -/
theorem read_tiles {κ : Kind} {sp : Space} (v : View sig κ sp S512x3072 .bf16) {F : Fin 512 → Fin 3072 → ℝ}
  {s3 c3 b3 s2 c2 b2 s1 c1 b1 s0 c0 b0 : (⟨2, ![512, 256]⟩ : Shape).Idx → EReal}
  {ks3 : ∀ a, (![0, 2816] : Fin 2 → ℕ) a + (![512, 256] : Fin 2 → ℕ) a ≤ S512x3072.size a}
  {kc3 : ∀ a, (![0, 1792] : Fin 2 → ℕ) a + (![512, 256] : Fin 2 → ℕ) a ≤ S512x3072.size a}
  {kb3 : ∀ a, (![0, 768] : Fin 2 → ℕ) a + (![512, 256] : Fin 2 → ℕ) a ≤ S512x3072.size a}
  {ks2 : ∀ a, (![0, 2560] : Fin 2 → ℕ) a + (![512, 256] : Fin 2 → ℕ) a ≤ S512x3072.size a}
  {kc2 : ∀ a, (![0, 1536] : Fin 2 → ℕ) a + (![512, 256] : Fin 2 → ℕ) a ≤ S512x3072.size a}
  {kb2 : ∀ a, (![0, 512] : Fin 2 → ℕ) a + (![512, 256] : Fin 2 → ℕ) a ≤ S512x3072.size a}
  {ks1 : ∀ a, (![0, 2304] : Fin 2 → ℕ) a + (![512, 256] : Fin 2 → ℕ) a ≤ S512x3072.size a}
  {kc1 : ∀ a, (![0, 1280] : Fin 2 → ℕ) a + (![512, 256] : Fin 2 → ℕ) a ≤ S512x3072.size a}
  {kb1 : ∀ a, (![0, 256] : Fin 2 → ℕ) a + (![512, 256] : Fin 2 → ℕ) a ≤ S512x3072.size a}
  {ks0 : ∀ a, (![0, 2048] : Fin 2 → ℕ) a + (![512, 256] : Fin 2 → ℕ) a ≤ S512x3072.size a}
  {kc0 : ∀ a, (![0, 1024] : Fin 2 → ℕ) a + (![512, 256] : Fin 2 → ℕ) a ≤ S512x3072.size a}
  {kb0 : ∀ a, (![0, 0] : Fin 2 → ℕ) a + (![512, 256] : Fin 2 → ℕ) a ≤ S512x3072.size a}
  {i : ∀ a, (![0, 0] : Fin 2 → ℕ) a + (![512, 3072] : Fin 2 → ℕ) a ≤ S512x3072.size a}
  (hs3 : Holds s3 fun r l => F r (from' 2816 (by omega) l))
  (hc3 : Holds c3 fun r l => F r (from' 1792 (by omega) l))
  (hb3 : Holds b3 fun r l => F r (from' 768 (by omega) l))
  (hs2 : Holds s2 fun r l => F r (from' 2560 (by omega) l))
  (hc2 : Holds c2 fun r l => F r (from' 1536 (by omega) l))
  (hb2 : Holds b2 fun r l => F r (from' 512 (by omega) l))
  (hs1 : Holds s1 fun r l => F r (from' 2304 (by omega) l))
  (hc1 : Holds c1 fun r l => F r (from' 1280 (by omega) l))
  (hb1 : Holds b1 fun r l => F r (from' 256 (by omega) l))
  (hs0 : Holds s0 fun r l => F r (from' 2048 (by omega) l))
  (hc0 : Holds c0 fun r l => F r (from' 1024 (by omega) l))
  (hb0 : Holds b0 fun r l => F r (from' 0 (by omega) l)) :
    Holds (n := 512) (m := 3072) (v.readCov (Val := Elt Ideal) [
      ⟨Rect.unit (s := S512x3072) ![0, 2816] ![512, 256] ks3, s3⟩,
      ⟨Rect.unit (s := S512x3072) ![0, 1792] ![512, 256] kc3, c3⟩,
      ⟨Rect.unit (s := S512x3072) ![0, 768] ![512, 256] kb3, b3⟩,
      ⟨Rect.unit (s := S512x3072) ![0, 2560] ![512, 256] ks2, s2⟩,
      ⟨Rect.unit (s := S512x3072) ![0, 1536] ![512, 256] kc2, c2⟩,
      ⟨Rect.unit (s := S512x3072) ![0, 512] ![512, 256] kb2, b2⟩,
      ⟨Rect.unit (s := S512x3072) ![0, 2304] ![512, 256] ks1, s1⟩,
      ⟨Rect.unit (s := S512x3072) ![0, 1280] ![512, 256] kc1, c1⟩,
      ⟨Rect.unit (s := S512x3072) ![0, 256] ![512, 256] kb1, b1⟩,
      ⟨Rect.unit (s := S512x3072) ![0, 2048] ![512, 256] ks0, s0⟩,
      ⟨Rect.unit (s := S512x3072) ![0, 1024] ![512, 256] kc0, c0⟩,
      ⟨Rect.unit (s := S512x3072) ![0, 0] ![512, 256] kb0, b0⟩]
      (Rect.unit (s := S512x3072) ![0, 0] ![512, 3072] i).toLoadRect) F := by
  intro r j
  rw [View.readCov_eq_canon']
  have hy : (Rect.unit (s := S512x3072) ![0, 0] ![512, 3072] i).toLoadRect.idx (ix2 r j) = ix2 r j := by
    funext b; apply Fin.ext
    fin_cases b
    · show 0 + 1 * r.val = r.val; omega
    · show 0 + 1 * j.val = j.val; omega
  show View.canon _ _ = _
  rw [hy]
  canon_tiles x hx using View.cover_of_tiledBy _ ![512, 256] (by sl_kernel_rfl) (ix2 r j)
  · exact at_tile hs3 x hx0 hx1
  · exact at_tile hc3 x hx0 hx1
  · exact at_tile hb3 x hx0 hx1
  · exact at_tile hs2 x hx0 hx1
  · exact at_tile hc2 x hx0 hx1
  · exact at_tile hb2 x hx0 hx1
  · exact at_tile hs1 x hx0 hx1
  · exact at_tile hc1 x hx0 hx1
  · exact at_tile hb1 x hx0 hx1
  · exact at_tile hs0 x hx0 hx1
  · exact at_tile hc0 x hx0 hx1
  · exact at_tile hb0 x hx0 (hx1.trans (Nat.zero_add _).symm)

/-- The points' rows are all tokens. -/
theorem sum_row (f : Fin 4096 → ℝ) : ∑ p : Fin cfg0.N, ∑ r, f (row p r) = ∑ t, f t :=
  Fin.sum_mul_add_congr (fun s k hl => rfl)

end Cert.ConvIdeal.Point

end
-- ==== Proof.ConvValue.lean ====
/- The input projection's gradient: three parts side by side, four groups of channels each. -/
module

public import proofs.«01_k».proof.Proof.ConvPoint

@[expose] public section

set_option maxRecDepth 16384

noncomputable section

namespace Cert.ConvIdeal.Results

open Idealize.ShloMosaic Idealize.ShloMosaic.TcCoe Idealize.SL.Sem
open Cert.ConvIdeal Cert.ConvIdeal.Gen Cert.Lift Cert.ShortConv Cert.ConvIdeal.Host Cert.ConvIdeal.Point
open Cert.Swiglu hiding Args

variable {m : (ℓ : Loc nD τ sig) → Buf (Elt Ideal) ℓ} {c : Dev nD} {a : Args} (h : Given m c a)
include h

set_option maxHeartbeats 1600000 in
theorem final11 : (dats m 0 c).arrAt 11 (cfgs 0).N = fun i => ((a.dp (i 0) (i 1) : ℝ) : EReal) := by
  refine (dats m 0 c).arrAt_eq_of_covers 11 _ (by decide +kernel) fun t _ y => ?_
  blk_simp
  rw [after0_11]
  have g0 := group t 0 (by omega) h
  have g1 := group t 256 (by omega) h
  have g2 := group t 512 (by omega) h
  have g3 := group t 768 (by omega) h
  by_cases ht : t.val % 8 = 0
  on_goal 1 => rw [outsAt0_A m c t ht]
  on_goal 2 => rw [outsAt0_B m c t ht]
  all_goals
    frame_out [read_ahead, read_astern]
    canon_tiles x hx using View.cover_of_tiledBy _ ![512, 256] (by sl_kernel_rfl) y
    on_goal 1 => refine of_part (f := a.dp) (o := 2048 + 768) (ho := by omega) g3.dxt x _ _ ?_ ?_
    on_goal 3 => refine of_part (f := a.dp) (o := 1024 + 768) (ho := by omega) g3.dgc x _ _ ?_ ?_
    on_goal 5 => refine of_part (f := a.dp) (o := 768) (ho := by omega) g3.dgb x _ _ ?_ ?_
    on_goal 7 => refine of_part (f := a.dp) (o := 2048 + 512) (ho := by omega) g2.dxt x _ _ ?_ ?_
    on_goal 9 => refine of_part (f := a.dp) (o := 1024 + 512) (ho := by omega) g2.dgc x _ _ ?_ ?_
    on_goal 11 => refine of_part (f := a.dp) (o := 512) (ho := by omega) g2.dgb x _ _ ?_ ?_
    on_goal 13 => refine of_part (f := a.dp) (o := 2048 + 256) (ho := by omega) g1.dxt x _ _ ?_ ?_
    on_goal 15 => refine of_part (f := a.dp) (o := 1024 + 256) (ho := by omega) g1.dgc x _ _ ?_ ?_
    on_goal 17 => refine of_part (f := a.dp) (o := 256) (ho := by omega) g1.dgb x _ _ ?_ ?_
    on_goal 19 => refine of_part (f := a.dp) (o := 2048 + 0) (ho := by omega) g0.dxt x _ _ ?_ ?_
    on_goal 21 => refine of_part (f := a.dp) (o := 1024 + 0) (ho := by omega) g0.dgc x _ _ ?_ ?_
    on_goal 23 => refine of_part (f := a.dp) (o := 0) (ho := by omega) g0.dgb x _ _ ?_ ?_
    all_goals (blk_simp [idx t] <;> try omega)

end Cert.ConvIdeal.Results

end
-- ==== Proof.ConvStream.lean ====
/- The gradients of the stream and of the gain, from the projection's gradient read back whole. -/
module

public import proofs.«01_k».proof.Proof.ConvPoint

@[expose] public section

set_option maxRecDepth 16384

noncomputable section

namespace Cert.ConvIdeal.Results

open Idealize.ShloMosaic Idealize.ShloMosaic.TcCoe Idealize.SL.Sem
open Cert.ConvIdeal Cert.ConvIdeal.Gen Cert.Lift Cert.ShortConv Cert.ConvIdeal.Host Cert.ConvIdeal.Point
open Cert.Swiglu hiding Args

variable {m : (ℓ : Loc nD τ sig) → Buf (Elt Ideal) ℓ} {c : Dev nD} {a : Args} (h : Given m c a)

theorem zeros (j : S1x1024.Idx) : k0_pay5 (F := Ideal) j = 0 := by pointwise [k0_pay5]

/-- The one entry loaded from the padding block. -/
theorem corner {x : (⟨2, ![8, 128]⟩ : Shape).Idx → EReal} (hx : ∀ r k, x (ix2 r k) = 0)
    (inb : ∀ a, (![0, 0] : Fin 2 → ℕ) a + (![1, 1] : Fin 2 → ℕ) a ≤ (⟨2, ![8, 128]⟩ : Shape).size a) :
    x ((Rect.unit (s := ⟨2, ![8, 128]⟩) ![0, 0] ![1, 1] inb).idx (ix2 0 0 : (⟨2, ![1, 1]⟩ : Shape).Idx)) = 0 :=
  (congrArg x (eq_ix2 _)).trans (hx _ _)

include h

set_option maxHeartbeats 1600000 in
theorem final13 : (dats m 0 c).arrAt 13 (cfgs 0).N = fun i => ((a.dstream (i 0) (i 1) : ℝ) : EReal) := by
  refine (dats m 0 c).arrAt_eq_of_covers 13 _ (by decide +kernel) fun t _ y => ?_
  blk_simp
  rw [after0_13]
  have g0 := group t 0 (by omega) h
  have g1 := group t 256 (by omega) h
  have g2 := group t 512 (by omega) h
  have g3 := group t 768 (by omega) h
  by_cases ht : t.val % 8 = 0
  on_goal 1 => rw [outsAt0_A m c t ht]
  on_goal 2 => rw [outsAt0_B m c t ht]
  all_goals
    frame_out [read_ahead, read_astern]
    refine of_block (f := a.dstream) (Body.stream (blk7 h t) ?_ (Body.dh (read_tiles (F := fun r j => a.dp (row t r) j) _
      g3.dxt g3.dgc g3.dgb g2.dxt g2.dgc g2.dgb g1.dxt g1.dgc g1.dgb g0.dxt g0.dgc g0.dgb) (blk6 h t)) ?_ ?_ (blk10 h t))
      y _ _ ?_ ?_
    on_goal 1 => exact f32_1024
    on_goal 1 => exact fun l => blk8 h t 0 l
    on_goal 1 => exact corner (blk9 h t) _
    on_goal 1 => blk_simp [idx t]
    on_goal 1 => blk_simp [idx t]

/-- What a point adds to the gain's gradient: its tokens' part of the sum. -/
theorem gain_at (t : Fin cfg0.N) {d : Vec Ideal S512x1024 .f32} {n : Ideal .f32} (hn : n = ((1024 : ℝ) : EReal))
    (hd : Holds d fun r l => a.dh (row t r) l) (acc : Vec Ideal S1x1024 .f32) (j : S1x1024.Idx) :
    k0_pay3 d (k0_pay85 (iblk m c 7 t)) (k0_pay86 (iblk m c 7 t)) n acc j
      = acc j + ((∑ r, a.dh (row t r) (j 1) * xhat (tok a.x) (row t r) (j 1) : ℝ) : EReal) := by
  obtain ⟨l, rfl⟩ : ∃ l : Fin 1024, j = ix2 0 l :=
    ⟨j 1, (eq_ix2 j).trans (congrArg (fun i => ix2 i (j 1)) (Subsingleton.elim _ _))⟩
  exact Body.gain (blk7 h t) hn hd acc l

set_option maxHeartbeats 1600000 in
theorem gain_step (t : Fin cfg0.N) (j : S1x1024.Idx) : (outsAt0 m c t.val t.isLt).2.2.2 j
    = (if t.val % 8 = 0 then 0 else (outsAt0 m c (t.val - 1) (by have := t.isLt; omega)).2.2.2 j)
      + ((∑ r, a.dh (row t r) (j 1) * xhat (tok a.x) (row t r) (j 1) : ℝ) : EReal) := by
  have g0 := group t 0 (by omega) h
  have g1 := group t 256 (by omega) h
  have g2 := group t 512 (by omega) h
  have g3 := group t 768 (by omega) h
  by_cases ht : t.val % 8 = 0
  on_goal 1 => rw [outsAt0_A m c t ht, if_pos ht, ← zeros j]
  on_goal 2 => rw [outsAt0_B m c t ht, if_neg ht]
  all_goals
    frame_out [read_ahead, read_astern]
    exact gain_at h t f32_1024 (Body.dh (read_tiles (F := fun r j => a.dp (row t r) j) _
      g3.dxt g3.dgc g3.dgb g2.dxt g2.dgc g2.dgb g1.dxt g1.dgc g1.dgb g0.dxt g0.dgc g0.dgb) (blk6 h t)) _ _

theorem final14 : (dats m 0 c).arrAt 14 (cfgs 0).N = fun i => ((a.dgain (i 1) : ℝ) : EReal) := by
  refine (dats m 0 c).arrAt_eq_of_after_last 14 t0_7 (by decide +kernel) _ fun j => ?_
  blk_simp
  rw [after0_14, Pipeline.eq_sum_fin_of_reset_step_apply_last (fun n h => (outsAt0 m c n h).2.2.2) 8 (fun _ => 0)
    (fun t j => ((∑ r, a.dh (row t r) (j 1) * xhat (tok a.x) (row t r) (j 1) : ℝ) : EReal))
    (fun t ht j => (gain_step h t j).trans (by rw [if_pos ht]))
    (fun t ht j => (gain_step h t j).trans (by rw [if_neg ht]))
    (le_of_eq N_0) t0_7 rfl j, zero_add]
  refine (sum_coe (fun p : Fin cfg0.N => ∑ r, a.dh (row p r) (j 1) * xhat (tok a.x) (row p r) (j 1))).trans ?_
  exact congrArg (fun x : ℝ => (x : EReal)) (sum_row fun t => a.dh t (j 1) * xhat (tok a.x) t (j 1))

end Cert.ConvIdeal.Results

end
-- ==== Proof.ConvTaps.lean ====
/- The gradients of the three taps, summed over the grid's points. -/
module

public import proofs.«01_k».proof.Proof.ConvPoint

@[expose] public section

set_option maxRecDepth 16384

noncomputable section

namespace Cert.ConvIdeal.Results

open Idealize.ShloMosaic Idealize.ShloMosaic.TcCoe Idealize.SL.Sem
open Cert.ConvIdeal Cert.ConvIdeal.Gen Cert.Lift Cert.ShortConv Cert.ConvIdeal.Host Cert.ConvIdeal.Point
open Cert.Swiglu hiding Args

variable {m : (ℓ : Loc nD τ sig) → Buf (Elt Ideal) ℓ} {c : Dev nD} {a : Args} (h : Given m c a)

theorem zeros3 (j : S3x1024.Idx) : k0_pay6 (F := Ideal) j = 0 := by pointwise [k0_pay6]

/-- A tile of one tap's gradient, at its place among the three. -/
theorem tap_at {p v : (⟨2, ![1, 256]⟩ : Shape).Idx → EReal} {P : (⟨2, ![3, 1024]⟩ : Shape).Idx → EReal}
    {S : Fin 3 → Fin 1024 → ℝ} {i : Fin 3} {c0 : ℕ} {hc : c0 + 256 ≤ 1024}
    (hp : ∀ l, p (ix2 0 l) = v (ix2 0 l) + ((S i (from' c0 hc l) : ℝ) : EReal))
    (hv : ∀ l, v (ix2 0 l) = P (ix2 i (from' c0 hc l))) (x : (⟨2, ![1, 256]⟩ : Shape).Idx)
    (j : (⟨2, ![3, 1024]⟩ : Shape).Idx) (h0 : (j 0).val = i.val) (h1 : (j 1).val = c0 + (x 1).val) :
    p x = P j + ((S (j 0) (j 1) : ℝ) : EReal) := by
  have e : x = ix2 0 (x 1) := (eq_ix2 x).trans (congrArg (fun i => ix2 i (x 1)) (Subsingleton.elim _ _))
  have e0 : i = j 0 := Fin.ext h0.symm
  have e1 : from' c0 hc (x 1) = j 1 := Fin.ext h1.symm
  have e2 : v (ix2 0 (x 1)) = P j := (hv _).trans (congrArg P ((congrArg₂ ix2 e0 e1).trans (eq_ix2 j).symm))
  have e3 : S i (from' c0 hc (x 1)) = S (j 0) (j 1) := congrArg₂ S e0 e1
  exact (congrArg p e).trans ((hp _).trans (congrArg₂ (fun (u : EReal) (w : ℝ) => u + (w : EReal)) e2 e3))

theorem ld_tap {P : (⟨2, ![3, 1024]⟩ : Shape).Idx → EReal} {i : Fin 3} {c0 : ℕ} (hc : c0 + 256 ≤ 1024)
    (inb : ∀ a, (![i.val, c0] : Fin 2 → ℕ) a + (![1, 256] : Fin 2 → ℕ) a ≤ (⟨2, ![3, 1024]⟩ : Shape).size a) (l : Fin 256) :
    P ((Rect.unit (s := ⟨2, ![3, 1024]⟩) ![i.val, c0] ![1, 256] inb).idx (ix2 0 l : (⟨2, ![1, 256]⟩ : Shape).Idx))
      = P (ix2 i (from' c0 hc l)) := by
  refine congrArg P ?_
  funext b; apply Fin.ext
  fin_cases b
  · show i.val + 1 * 0 = i.val; omega
  · show c0 + 1 * l.val = c0 + l.val; omega

/-- What a point adds to the gradients of the taps. -/
def taps (a : Args) (t : Fin cfg0.N) (i : Fin 3) (k : Fin 1024) : ℝ := ∑ r, a.dyc (row t r) k * a.seen i (row t r) k

/-- A tile loaded after a write to another tile, -/
theorem fresh_cons {κ : Kind} {sp : Space} (v : View sig κ sp S3x1024 .f32) {i c0 i' c1 : ℕ}
    {j1 : ∀ a, (![i', c1] : Fin 2 → ℕ) a + (![1, 256] : Fin 2 → ℕ) a ≤ S3x1024.size a}
    {j2 : ∀ a, (![i, c0] : Fin 2 → ℕ) a + (![1, 256] : Fin 2 → ℕ) a ≤ S3x1024.size a}
    {w : (⟨2, ![1, 256]⟩ : Shape).Idx → EReal} {L : List (View.Piece (Elt Ideal) S3x1024 .f32)}
    (hd : i' ≠ i ∨ c1 + 256 ≤ c0 ∨ c0 + 256 ≤ c1) :
    v.readCov (Val := Elt Ideal) (⟨Rect.unit (s := S3x1024) ![i', c1] ![1, 256] j1, w⟩ :: L)
        (Rect.unit (s := S3x1024) ![i, c0] ![1, 256] j2).toLoadRect
      = v.readCov (Val := Elt Ideal) L (Rect.unit (s := S3x1024) ![i, c0] ![1, 256] j2).toLoadRect := by
  rw [View.readCov_eq_canon', View.readCov_eq_canon']
  funext y
  refine View.canon_cons_of_not_mem _ _ fun hm => ?_
  have h0 := (Rect.mem_set_unit (inb := j1).mp hm 0)
  have h1 := (Rect.mem_set_unit (inb := j1).mp hm 1)
  have h2 : i' ≤ i + 1 * (y 0).val ∧ i + 1 * (y 0).val < i' + 1 := h0
  have h3 : c1 ≤ c0 + 1 * (y 1).val ∧ c0 + 1 * (y 1).val < c1 + 256 := h1
  have hy0 : (y 0).val < 1 := (y 0).isLt
  have hy1 : (y 1).val < 256 := (y 1).isLt
  omega

/-- and one loaded after the zeros alone. -/
theorem fresh_zeros {κ : Kind} {sp : Space} (v : View sig κ sp S3x1024 .f32) {i c0 : ℕ}
    {j1 : ∀ a, (![0, 0] : Fin 2 → ℕ) a + (![3, 1024] : Fin 2 → ℕ) a ≤ S3x1024.size a}
    {j2 : ∀ a, (![i, c0] : Fin 2 → ℕ) a + (![1, 256] : Fin 2 → ℕ) a ≤ S3x1024.size a} :
    v.readCov (Val := Elt Ideal) [⟨Rect.unit (s := S3x1024) ![0, 0] ![3, 1024] j1, k0_pay6 (F := Ideal)⟩]
        (Rect.unit (s := S3x1024) ![i, c0] ![1, 256] j2).toLoadRect = fun _ => (0 : EReal) := by
  rw [View.readCov_eq_canon']
  funext y
  show View.canon _ ((Rect.unit (s := S3x1024) ![i, c0] ![1, 256] j2).toLoadRect.idx y) = _
  generalize (Rect.unit (s := S3x1024) ![i, c0] ![1, 256] j2).toLoadRect.idx y = z
  have e : z = (Rect.unit (s := S3x1024) ![0, 0] ![3, 1024] j1).emb z := by
    funext b; apply Fin.ext
    fin_cases b
    · show (z 0).val = 0 + 1 * (z 0).val; omega
    · show (z 1).val = 0 + 1 * (z 1).val; omega
  exact (congrArg _ e).trans
    ((View.canon_cons_emb (Val := Elt Ideal) (e := .f32) (Rect.unit (s := S3x1024) ![0, 0] ![3, 1024] j1) _ [] _).trans
      (zeros3 _))

/-- Writes that cover a block leave nothing of one made before them. -/
theorem canon_last {S : Shape} (z : View.Piece (Elt Ideal) S .f32) (L : List (View.Piece (Elt Ideal) S .f32)) {y : S.Idx}
    (hc : ∃ p ∈ L, y ∈ p.1.set) : View.canon (L ++ [z]) y = View.canon L y := by
  induction L with
  | nil => obtain ⟨p, hp, -⟩ := hc; exact absurd hp List.not_mem_nil
  | cons p L ih =>
    by_cases hm : y ∈ p.1.set
    · obtain ⟨x, hx⟩ : ∃ x, p.1.emb x = y := p.1.exists_idx_of_mem hm
      subst hx
      exact (View.canon_cons_emb p.1 p.2 (L ++ [z]) x).trans (View.canon_cons_emb p.1 p.2 L x).symm
    · refine (View.canon_cons_of_not_mem p (L ++ [z]) hm).trans ((ih ?_).trans (View.canon_cons_of_not_mem p L hm).symm)
      obtain ⟨q, hq, hy⟩ := hc
      rcases List.mem_cons.mp hq with rfl | hq
      · exact absurd hy hm
      · exact ⟨q, hq, hy⟩

include h

set_option maxHeartbeats 1600000 in
theorem step (t : Fin cfg0.N) (ht : ¬ t.val % 8 = 0) (j : S3x1024.Idx) : (outsAt0 m c t.val t.isLt).2.1 j
    = (outsAt0 m c (t.val - 1) (by have := t.isLt; omega)).2.1 j + ((taps a t (j 0) (j 1) : ℝ) : EReal) := by
  have g0 := group t 0 (by omega) h
  have g1 := group t 256 (by omega) h
  have g2 := group t 512 (by omega) h
  have g3 := group t 768 (by omega) h
  rw [outsAt0_B m c t ht]
  frame_out [read_ahead, read_astern]
  canon_tiles x hx using View.cover_of_tiledBy _ ![1, 256] (by sl_kernel_rfl) j
  on_goal 1 => exact tap_at (S := taps a t) (i := 2) (hc := by omega) (g3.tap2 _) (ld_tap (i := 2) _ _) x j (by show _ = 2; omega) (by omega)
  on_goal 1 => exact tap_at (S := taps a t) (i := 1) (hc := by omega) (g3.tap1 _) (ld_tap (i := 1) _ _) x j (by show _ = 1; omega) (by omega)
  on_goal 1 => exact tap_at (S := taps a t) (i := 0) (hc := by omega) (g3.tap0 _) (ld_tap (i := 0) _ _) x j (by show _ = 0; omega) (by omega)
  on_goal 1 => exact tap_at (S := taps a t) (i := 2) (hc := by omega) (g2.tap2 _) (ld_tap (i := 2) _ _) x j (by show _ = 2; omega) (by omega)
  on_goal 1 => exact tap_at (S := taps a t) (i := 1) (hc := by omega) (g2.tap1 _) (ld_tap (i := 1) _ _) x j (by show _ = 1; omega) (by omega)
  on_goal 1 => exact tap_at (S := taps a t) (i := 0) (hc := by omega) (g2.tap0 _) (ld_tap (i := 0) _ _) x j (by show _ = 0; omega) (by omega)
  on_goal 1 => exact tap_at (S := taps a t) (i := 2) (hc := by omega) (g1.tap2 _) (ld_tap (i := 2) _ _) x j (by show _ = 2; omega) (by omega)
  on_goal 1 => exact tap_at (S := taps a t) (i := 1) (hc := by omega) (g1.tap1 _) (ld_tap (i := 1) _ _) x j (by show _ = 1; omega) (by omega)
  on_goal 1 => exact tap_at (S := taps a t) (i := 0) (hc := by omega) (g1.tap0 _) (ld_tap (i := 0) _ _) x j (by show _ = 0; omega) (by omega)
  on_goal 1 => exact tap_at (S := taps a t) (i := 2) (hc := by omega) (g0.tap2 _) (ld_tap (i := 2) _ _) x j (by show _ = 2; omega) (by omega)
  on_goal 1 => exact tap_at (S := taps a t) (i := 1) (hc := by omega) (g0.tap1 _) (ld_tap (i := 1) _ _) x j (by show _ = 1; omega) (by omega)
  on_goal 1 => exact tap_at (S := taps a t) (i := 0) (hc := by omega) (g0.tap0 _) (ld_tap (i := 0) _ _) x j (by show _ = 0; omega) (by omega)

set_option maxHeartbeats 1600000 in
theorem reset (t : Fin cfg0.N) (ht : t.val % 8 = 0) (j : S3x1024.Idx) : (outsAt0 m c t.val t.isLt).2.1 j
    = 0 + ((taps a t (j 0) (j 1) : ℝ) : EReal) := by
  have g0 := group t 0 (by omega) h
  have g1 := group t 256 (by omega) h
  have g2 := group t 512 (by omega) h
  have g3 := group t 768 (by omega) h
  rw [outsAt0_A m c t ht]
  frame_out [read_ahead, read_astern, fresh_cons, fresh_zeros]
  refine (canon_last _ [_, _, _, _, _, _, _, _, _, _, _, _] (View.cover_of_tiledBy _ ![1, 256] (by sl_kernel_rfl) j)).trans ?_
  canon_tiles x hx using View.cover_of_tiledBy _ ![1, 256] (by sl_kernel_rfl) j
  on_goal 1 => exact tap_at (S := taps a t) (P := fun _ => 0) (v := fun _ => 0) (i := 2) (c0 := 768) (hc := by omega) (g3.tap2 fun _ => 0) (fun _ => rfl) x j (by show _ = 2; omega) (by omega)
  on_goal 1 => exact tap_at (S := taps a t) (P := fun _ => 0) (v := fun _ => 0) (i := 1) (c0 := 768) (hc := by omega) (g3.tap1 fun _ => 0) (fun _ => rfl) x j (by show _ = 1; omega) (by omega)
  on_goal 1 => exact tap_at (S := taps a t) (P := fun _ => 0) (v := fun _ => 0) (i := 0) (c0 := 768) (hc := by omega) (g3.tap0 fun _ => 0) (fun _ => rfl) x j (by show _ = 0; omega) (by omega)
  on_goal 1 => exact tap_at (S := taps a t) (P := fun _ => 0) (v := fun _ => 0) (i := 2) (c0 := 512) (hc := by omega) (g2.tap2 fun _ => 0) (fun _ => rfl) x j (by show _ = 2; omega) (by omega)
  on_goal 1 => exact tap_at (S := taps a t) (P := fun _ => 0) (v := fun _ => 0) (i := 1) (c0 := 512) (hc := by omega) (g2.tap1 fun _ => 0) (fun _ => rfl) x j (by show _ = 1; omega) (by omega)
  on_goal 1 => exact tap_at (S := taps a t) (P := fun _ => 0) (v := fun _ => 0) (i := 0) (c0 := 512) (hc := by omega) (g2.tap0 fun _ => 0) (fun _ => rfl) x j (by show _ = 0; omega) (by omega)
  on_goal 1 => exact tap_at (S := taps a t) (P := fun _ => 0) (v := fun _ => 0) (i := 2) (c0 := 256) (hc := by omega) (g1.tap2 fun _ => 0) (fun _ => rfl) x j (by show _ = 2; omega) (by omega)
  on_goal 1 => exact tap_at (S := taps a t) (P := fun _ => 0) (v := fun _ => 0) (i := 1) (c0 := 256) (hc := by omega) (g1.tap1 fun _ => 0) (fun _ => rfl) x j (by show _ = 1; omega) (by omega)
  on_goal 1 => exact tap_at (S := taps a t) (P := fun _ => 0) (v := fun _ => 0) (i := 0) (c0 := 256) (hc := by omega) (g1.tap0 fun _ => 0) (fun _ => rfl) x j (by show _ = 0; omega) (by omega)
  on_goal 1 => exact tap_at (S := taps a t) (P := fun _ => 0) (v := fun _ => 0) (i := 2) (c0 := 0) (hc := by omega) (g0.tap2 fun _ => 0) (fun _ => rfl) x j (by show _ = 2; omega) (by omega)
  on_goal 1 => exact tap_at (S := taps a t) (P := fun _ => 0) (v := fun _ => 0) (i := 1) (c0 := 0) (hc := by omega) (g0.tap1 fun _ => 0) (fun _ => rfl) x j (by show _ = 1; omega) (by omega)
  on_goal 1 => exact tap_at (S := taps a t) (P := fun _ => 0) (v := fun _ => 0) (i := 0) (c0 := 0) (hc := by omega) (g0.tap0 fun _ => 0) (fun _ => rfl) x j (by show _ = 0; omega) (by omega)

theorem final12 : (dats m 0 c).arrAt 12 (cfgs 0).N = fun i => ((a.dcw (i 0) (i 1) : ℝ) : EReal) := by
  refine (dats m 0 c).arrAt_eq_of_after_last 12 t0_7 (by decide +kernel) _ fun j => ?_
  blk_simp
  rw [after0_12, Pipeline.eq_sum_fin_of_reset_step_apply_last (fun n h => (outsAt0 m c n h).2.1) 8 (fun _ => 0)
    (fun t j => ((taps a t (j 0) (j 1) : ℝ) : EReal)) (fun t ht j => reset h t ht j) (fun t ht j => step h t ht j)
    (le_of_eq N_0) t0_7 rfl j, zero_add]
  refine (sum_coe (fun p : Fin cfg0.N => taps a p (j 0) (j 1))).trans ?_
  exact congrArg (fun x : ℝ => (x : EReal)) (sum_row fun t => a.dyc t (j 1) * a.seen (j 0) t (j 1))

end Cert.ConvIdeal.Results

end
-- ==== Proof.ConvRef.lean ====
/- The reference's values: on real arguments every result of the short convolution's reference gradient is the real array of
   `ConvReal`. One lemma per stage, in the order of the reference's operations. -/
module

public import proofs.«01_k».proof.Proof.ConvReal
public import proofs.«01_k».proof.Proof.Gen.ConvRefIdeal.Read
public import Idealize.ShloMosaic.Lib.KernelVsHost

@[expose] public section

set_option maxRecDepth 16384

noncomputable section

namespace Cert.ConvRefIdeal.Real

open Idealize.ShloMosaic Idealize.SL.Sem
open Cert.ConvRefIdeal Cert.ConvRefIdeal.Gen Cert.ConvRefIdeal.Read Cert.Lift Cert.ShortConv
open Cert.Swiglu hiding Args

theorem prev_zero (f : Fin 4096 → Fin 1024 → ℝ) (t : Fin 4096) (k : Fin 1024) : prev 0 f t k = f t k := by
  rw [prev, if_neg (Nat.not_lt_zero _)]; rfl

theorem next_zero (f : Fin 4096 → Fin 1024 → ℝ) (t : Fin 4096) (k : Fin 1024) : next 0 f t k = f t k := by
  have h : t.val % 2048 + 0 < 2048 := Nat.mod_lt _ (by norm_num)
  rw [next, dif_pos h]; rfl

/-- Zeros, then each sequence: an entry of it is the sequence's `n` tokens before. -/
theorem concat_prev {x₁ : S2x2x1024.Idx → EReal} {x₂ : S2x2048x1024.Idx → EReal} {f : Fin 4096 → Fin 1024 → ℝ}
    (hc : Shape.Concatenates [S2x2x1024, S2x2048x1024] S2x2050x1024 1) (h₁ : ∀ i, x₁ i = 0)
    (h₂ : ∀ (i : S2x2048x1024.Idx) (t : Fin 4096) (k : Fin 1024), (i 0).val * 2048 + (i 1).val = t.val → (i 2).val = k.val →
      x₂ i = ((f t k : ℝ) : EReal))
    {n : ℕ} (hn : n ≤ 2) (j : S2x2050x1024.Idx) (t : Fin 4096) (k : Fin 1024) (j0 : (j 0).val = t.val / 2048)
    (j1 : (j 1).val + n = t.val % 2048 + 2) (j2 : (j 2).val = k.val) :
    concatenate S2x2050x1024 1 [⟨S2x2x1024, x₁⟩, ⟨S2x2048x1024, x₂⟩] hc j = ((prev n f t k : ℝ) : EReal) := by
  by_cases h : t.val % 2048 < n
  · rw [prev, if_pos h]
    refine (concatenate_pair_apply_left 1 x₁ x₂ hc j rfl
      (ix3 (⟨t.val / 2048, by omega⟩ : Fin 2) (⟨(j 1).val, by omega⟩ : Fin 2) k) (fun b => ?_)).trans (h₁ _)
    fin_cases b
    · exact j0.symm
    · rfl
    · exact j2.symm
  · rw [prev, if_neg h]
    refine (concatenate_pair_apply_right 1 x₁ x₂ hc j rfl rfl
      (ix3 (⟨t.val / 2048, by omega⟩ : Fin 2) (⟨t.val % 2048 - n, by omega⟩ : Fin 2048) k) (fun b hb => ?_) ?_).trans
      (h₂ _ _ _ ?_ rfl)
    · fin_cases b
      · exact j0.symm
      · exact absurd rfl hb
      · exact j2.symm
    · show t.val % 2048 - n + 2 = (j 1).val; omega
    · show t.val / 2048 * 2048 + (t.val % 2048 - n) = t.val - n; omega

/-- Each sequence between zeros, read from two tokens in: the sequence's `hi` tokens behind. -/
theorem pad_next {x : S2x2048x1024.Idx → EReal} {v : S_.Idx → EReal} {f : Fin 4096 → Fin 1024 → ℝ} {lo hi : ℕ}
    (hp : S2x2048x1024.Pads ![0, lo, 0] ![0, hi, 0] ![0, 0, 0] S2x2050x1024) (hu : 0 < S_.numel) (hv : ∀ i, v i = 0)
    (hx : ∀ (i : S2x2048x1024.Idx) (t : Fin 4096) (k : Fin 1024), (i 0).val * 2048 + (i 1).val = t.val → (i 2).val = k.val →
      x i = ((f t k : ℝ) : EReal))
    (hs : lo + hi = 2) (j : S2x2050x1024.Idx) (t : Fin 4096) (k : Fin 1024) (j0 : (j 0).val = t.val / 2048)
    (j1 : (j 1).val = t.val % 2048 + 2) (j2 : (j 2).val = k.val) :
    pad S2x2050x1024 ![0, lo, 0] ![0, hi, 0] ![0, 0, 0] x v hp hu j = ((next hi f t k : ℝ) : EReal) := by
  by_cases h : t.val % 2048 + hi < 2048
  · rw [next, dif_pos h]
    refine (pad_apply_of_inside _ _ _ x v hp hu j
      (ix3 (⟨t.val / 2048, by omega⟩ : Fin 2) (⟨t.val % 2048 + hi, h⟩ : Fin 2048) k) (fun b => ?_)).trans (hx _ _ _ ?_ rfl)
    · fin_cases b
      · show (j 0).val = 0 + t.val / 2048 * (0 + 1); omega
      · show (j 1).val = lo + (t.val % 2048 + hi) * (0 + 1); omega
      · show (j 2).val = 0 + k.val * (0 + 1); omega
    · show t.val / 2048 * 2048 + (t.val % 2048 + hi) = t.val + hi; omega
  · rw [next, dif_neg h]
    refine (pad_apply_of_not_inside _ _ _ x v hp hu j (1 : Fin 3) ?_).trans (hv _)
    rintro ⟨-, -, h3⟩
    have h4 : ((j 1).val - lo) / (0 + 1) < 2048 := h3
    omega

/-- One row among three, the others zero. -/
theorem pad_row {x : S1x1024.Idx → EReal} {v : S_.Idx → EReal} {f : Fin 1024 → ℝ} {lo hi : ℕ}
    (hp : S1x1024.Pads ![lo, 0] ![hi, 0] ![0, 0] S3x1024) (hu : 0 < S_.numel) (hv : ∀ i, v i = 0)
    (hx : ∀ i, x i = ((f (i 1) : ℝ) : EReal)) (j : S3x1024.Idx) :
    pad S3x1024 ![lo, 0] ![hi, 0] ![0, 0] x v hp hu j = (((if (j 0).val = lo then f (j 1) else 0 : ℝ)) : EReal) := by
  by_cases h : (j 0).val = lo
  · rw [if_pos h]
    refine (pad_apply_of_inside _ _ _ x v hp hu j (ix2 (0 : Fin 1) (j 1)) (fun b => ?_)).trans (hx _)
    fin_cases b
    · show (j 0).val = lo + 0 * (0 + 1); omega
    · show (j 1).val = 0 + (j 1).val * (0 + 1); omega
  · rw [if_neg h]
    refine (pad_apply_of_not_inside _ _ _ x v hp hu j (0 : Fin 2) ?_).trans (hv _)
    rintro ⟨h2, -, h3⟩
    have h4 : lo ≤ (j 0).val := h2
    have h5 : ((j 0).val - lo) / (0 + 1) < 1 := h3
    omega

variable (a : Args)

theorem v0 (i) : val_main_v0 (F := Ideal) (up a.x) i = ((tok a.x (i 0) (i 1) : ℝ) : EReal) := by
  rw [val_main_v0_apply]
  have h0 : (i 0).val < 4096 := (i 0).isLt
  have h1 : (i 1).val < 1024 := (i 1).isLt
  exact up_tok _ _ _ _ (show ((i 0).val * 1024 + (i 1).val) / 2097152 = (i 0).val / 2048 by omega)
    (show ((i 0).val * 1024 + (i 1).val) / 1024 % 2048 = (i 0).val % 2048 by omega)
    (show ((i 0).val * 1024 + (i 1).val) % 1024 = (i 1).val by omega)

theorem v1 (i) : val_main_v1 (F := Ideal) (up a.dy) i = ((tok a.dy (i 0) (i 1) : ℝ) : EReal) := by
  rw [val_main_v1_apply]
  have h0 : (i 0).val < 4096 := (i 0).isLt
  have h1 : (i 1).val < 1024 := (i 1).isLt
  exact up_tok _ _ _ _ (show ((i 0).val * 1024 + (i 1).val) / 2097152 = (i 0).val / 2048 by omega)
    (show ((i 0).val * 1024 + (i 1).val) / 1024 % 2048 = (i 0).val % 2048 by omega)
    (show ((i 0).val * 1024 + (i 1).val) % 1024 = (i 1).val by omega)

theorem v2 (i) : val_main_v2 (F := Ideal) (up a.dres) i = ((tok a.dres (i 0) (i 1) : ℝ) : EReal) := by
  rw [val_main_v2_apply]
  have h0 : (i 0).val < 4096 := (i 0).isLt
  have h1 : (i 1).val < 1024 := (i 1).isLt
  exact up_tok _ _ _ _ (show ((i 0).val * 1024 + (i 1).val) / 2097152 = (i 0).val / 2048 by omega)
    (show ((i 0).val * 1024 + (i 1).val) / 1024 % 2048 = (i 0).val % 2048 by omega)
    (show ((i 0).val * 1024 + (i 1).val) % 1024 = (i 1).val by omega)

theorem v3 (i) : val_main_v3 (F := Ideal) (up a.g) i = ((vec a.g (i 1) : ℝ) : EReal) := by
  rw [val_main_v3_apply]; exact up_vec _ _

theorem v5 (i) : val_main_v5 (F := Ideal) (up a.x) i = ((∑ k, tok a.x (i 0) k * tok a.x (i 0) k : ℝ) : EReal) := by
  rw [val_main_v5_apply]
  refine zero_add_sum fun k => ?_
  rw [val_main_v4_apply, v0]; exact mul_coe _ _

theorem v10 (i) : val_main_v10 (F := Ideal) (up a.x) i = ((Norm.ms (tok a.x (i 0)) : ℝ) : EReal) := by
  rw [val_main_v10_apply, val_main_v8_apply, val_main_v6_apply, v5, val_main_v7_apply, val_main_v9_apply]
  show Ideal.div _ (Ideal.ofBits .f32 0x44800000#32) + Ideal.ofBits .f32 0x358637BD#32 = _
  rw [f32_1024, f32_eps, div_coe' (by norm_num), add_coe]; rfl

theorem v11 (i) : val_main_v11 (F := Ideal) (up a.x) i = ((Norm.rs (tok a.x (i 0)) : ℝ) : EReal) := by
  rw [val_main_v11_apply, v10, Ideal.hostUnary_rsqrt_def]; exact rsqrt_coe' (Norm.ms_pos _)

theorem v14 (i) : val_main_v14 (F := Ideal) (up a.x) i
    = ((-(1 / 2) * (Norm.rs (tok a.x (i 0)) / Norm.ms (tok a.x (i 0))) : ℝ) : EReal) := by
  rw [val_main_v14_apply, val_main_v13_apply, val_main_v12_apply, v10, v11]
  show Ideal.ofBits .f32 0xBF000000#32 * Ideal.div _ _ = _
  rw [f32_neg_half, div_coe' (Norm.ms_pos _).ne', mul_coe]

theorem v16 (i) : val_main_v16 (F := Ideal) (up a.x) i = ((xhat (tok a.x) (i 0) (i 1) : ℝ) : EReal) := by
  rw [val_main_v16_apply, val_main_v15_apply, v0, v11]; exact mul_coe _ _

theorem v18 (i) : val_main_v18 (F := Ideal) (up a.x) (up a.g) i
    = ((xhat (tok a.x) (i 0) (i 1) * vec a.g (i 1) : ℝ) : EReal) := by
  rw [val_main_v18_apply, val_main_v17_apply, v16, v3]; exact mul_coe _ _

theorem v19 (i) : val_main_v19 (F := Ideal) (up a.x) (up a.g) (up a.w) i = ((a.p (i 0) (i 1) : ℝ) : EReal) := by
  rw [val_main_v19_apply, sum_mul (fun k => v18 a _) fun k => up_mat a.w _]; rfl

theorem v20 (i) : val_main_v20 (F := Ideal) (up a.x) (up a.g) (up a.w) i = ((a.gb (i 0) (i 1) : ℝ) : EReal) := by
  rw [val_main_v20_apply, v19]
  exact congrArg (fun j => ((a.p (i 0) j : ℝ) : EReal)) (Fin.ext (Nat.zero_add _).symm)

theorem v21 (i) : val_main_v21 (F := Ideal) (up a.x) (up a.g) (up a.w) i = ((a.gc (i 0) (i 1) : ℝ) : EReal) := by
  rw [val_main_v21_apply, v19]; rfl

theorem v22 (i) : val_main_v22 (F := Ideal) (up a.x) (up a.g) (up a.w) i = ((a.xt (i 0) (i 1) : ℝ) : EReal) := by
  rw [val_main_v22_apply, v19]; rfl

theorem v23 (i) : val_main_v23 (F := Ideal) (up a.x) (up a.g) (up a.w) i = ((a.q (i 0) (i 1) : ℝ) : EReal) := by
  rw [val_main_v23_apply, v21, v22]; exact mul_coe _ _

/-- A token's place in the flat array. -/
theorem flat (i : S2x2048x1024.Idx) {t : Fin 4096} {k : Fin 1024} (h : (i 0).val * 2048 + (i 1).val = t.val)
    (h2 : (i 2).val = k.val) {p q : ℕ} (hp : p = (((i 0).val * 2048 + (i 1).val) * 1024 + (i 2).val) / 1024)
    (hq : q = (((i 0).val * 2048 + (i 1).val) * 1024 + (i 2).val) % 1024) : p = t.val ∧ q = k.val := by
  have := k.isLt
  omega

theorem v24 (i : S2x2048x1024.Idx) (t : Fin 4096) (k : Fin 1024) (h : (i 0).val * 2048 + (i 1).val = t.val)
    (h2 : (i 2).val = k.val) : val_main_v24 (F := Ideal) (up a.x) (up a.g) (up a.w) i = ((a.q t k : ℝ) : EReal) := by
  rw [val_main_v24_apply, v23]
  obtain ⟨e0, e1⟩ := flat i h h2 rfl rfl
  exact congrArg (fun x : ℝ => (x : EReal)) (congrArg₂ a.q (Fin.ext e0) (Fin.ext e1))

theorem v26 {n : ℕ} (hn : n ≤ 2) (j : S2x2050x1024.Idx) (t : Fin 4096) (k : Fin 1024) (j0 : (j 0).val = t.val / 2048)
    (j1 : (j 1).val + n = t.val % 2048 + 2) (j2 : (j 2).val = k.val) :
    val_main_v26 (F := Ideal) (up a.x) (up a.g) (up a.w) j = ((prev n a.q t k : ℝ) : EReal) :=
  concat_prev _ (fun i => by rw [val_main_v25_apply]; exact Ideal.ofBits_zero_f32) (v24 a) hn j t k j0 j1 j2

theorem v29 (i) : val_main_v29 (F := Ideal) (up a.x) (up a.g) (up a.w) i = ((a.q2 (i 0) (i 1) : ℝ) : EReal) := by
  rw [val_main_v29_apply, val_main_v28_apply]
  have h0 : (i 0).val < 4096 := (i 0).isLt
  have h1 : (i 1).val < 1024 := (i 1).isLt
  exact v26 a (n := 2) (by omega) _ (i 0) (i 1) (show ((i 0).val * 1024 + (i 1).val) / 2097152 = (i 0).val / 2048 by omega)
    (show ((i 0).val * 1024 + (i 1).val) / 1024 % 2048 + 2 = (i 0).val % 2048 + 2 by omega)
    (show ((i 0).val * 1024 + (i 1).val) % 1024 = (i 1).val by omega)

theorem v31 (i) : val_main_v31 (F := Ideal) (up a.x) (up a.g) (up a.w) i = ((a.q1 (i 0) (i 1) : ℝ) : EReal) := by
  rw [val_main_v31_apply, val_main_v30_apply]
  have h0 : (i 0).val < 4096 := (i 0).isLt
  have h1 : (i 1).val < 1024 := (i 1).isLt
  exact v26 a (n := 1) (by omega) _ (i 0) (i 1) (show ((i 0).val * 1024 + (i 1).val) / 2097152 = (i 0).val / 2048 by omega)
    (show 1 + ((i 0).val * 1024 + (i 1).val) / 1024 % 2048 + 1 = (i 0).val % 2048 + 2 by omega)
    (show ((i 0).val * 1024 + (i 1).val) % 1024 = (i 1).val by omega)

theorem v33 (i) : val_main_v33 (F := Ideal) (up a.x) (up a.g) (up a.w) i = ((a.q (i 0) (i 1) : ℝ) : EReal) := by
  rw [val_main_v33_apply, val_main_v32_apply]
  have h0 : (i 0).val < 4096 := (i 0).isLt
  have h1 : (i 1).val < 1024 := (i 1).isLt
  refine (v26 a (n := 0) (by omega) _ (i 0) (i 1) (show ((i 0).val * 1024 + (i 1).val) / 2097152 = (i 0).val / 2048 by omega)
    (show 2 + ((i 0).val * 1024 + (i 1).val) / 1024 % 2048 + 0 = (i 0).val % 2048 + 2 by omega)
    (show ((i 0).val * 1024 + (i 1).val) % 1024 = (i 1).val by omega)).trans ?_
  exact congrArg (fun x : ℝ => (x : EReal)) (prev_zero _ _ _)

/-- The taps, spread over the tokens. -/
theorem v35 (i) : val_main_v35 (F := Ideal) (up a.cw) i = ((mat a.cw 0 (i 1) : ℝ) : EReal) := by
  rw [val_main_v35_apply, val_main_v34_apply]; exact up_mat a.cw _

theorem v38 (i) : val_main_v38 (F := Ideal) (up a.cw) i = ((mat a.cw 1 (i 1) : ℝ) : EReal) := by
  rw [val_main_v38_apply, val_main_v37_apply]; exact up_mat a.cw _

theorem v42 (i) : val_main_v42 (F := Ideal) (up a.cw) i = ((mat a.cw 2 (i 1) : ℝ) : EReal) := by
  rw [val_main_v42_apply, val_main_v41_apply]; exact up_mat a.cw _

theorem v44 (i) : val_main_v44 (F := Ideal) (up a.x) (up a.g) (up a.w) (up a.cw) i = ((a.y (i 0) (i 1) : ℝ) : EReal) := by
  rw [val_main_v44_apply, val_main_v43_apply, val_main_v40_apply, val_main_v39_apply, val_main_v36_apply, v29, v31, v33,
    v35, v38, v42]
  show (_ : EReal) * _ + _ * _ + _ * _ = _
  rw [mul_coe, mul_coe, mul_coe, add_coe, add_coe]
  exact congrArg (fun x : ℝ => (x : EReal)) (congrArg₂ (fun x y : ℝ => x + y)
    (congrArg₂ (fun x y : ℝ => x + y) (mul_comm _ _) (mul_comm _ _)) (mul_comm _ _))

theorem v46 (i) : val_main_v46 (F := Ideal) (up a.x) (up a.g) (up a.w) (up a.dy) i = ((a.dyc (i 0) (i 1) : ℝ) : EReal) := by
  rw [val_main_v46_apply, v20, v1]
  exact (mul_coe _ _).trans (congrArg (fun x : ℝ => (x : EReal)) (mul_comm _ _))

theorem v47 (i) : val_main_v47 (F := Ideal) (up a.x) (up a.g) (up a.w) (up a.cw) (up a.dy) i = ((a.dgb (i 0) (i 1) : ℝ) : EReal) := by
  rw [val_main_v47_apply, v44, v1]; exact mul_coe _ _

theorem v50 (i) : val_main_v50 (F := Ideal) (up a.x) (up a.g) (up a.w) (up a.dy) i = ((a.dcw 2 (i 1) : ℝ) : EReal) := by
  rw [val_main_v50_apply, val_main_v49_apply]
  have e : idx_main_v50 i 0 = i 1 := Fin.ext (by
    have h0 : (i 0).val < 1 := (i 0).isLt
    show (i 0).val * 1024 + (i 1).val = (i 1).val; omega)
  refine (zero_add_sum (p := fun t => a.dyc t (i 1) * a.seen 2 t (i 1)) fun t => ?_).trans rfl
  rw [val_main_v48_apply, v33, v46]
  refine (mul_coe _ _).trans (congrArg (fun x : ℝ => (x : EReal)) ((mul_comm _ _).trans ?_))
  show a.dyc t (idx_main_v50 i 0) * a.seen 2 t (idx_main_v50 i 0) = _
  rw [e]

theorem v56 (i) : val_main_v56 (F := Ideal) (up a.x) (up a.g) (up a.w) (up a.dy) i = ((a.dcw 1 (i 1) : ℝ) : EReal) := by
  rw [val_main_v56_apply, val_main_v55_apply]
  have e : idx_main_v56 i 0 = i 1 := Fin.ext (by
    have h0 : (i 0).val < 1 := (i 0).isLt
    show (i 0).val * 1024 + (i 1).val = (i 1).val; omega)
  refine (zero_add_sum (p := fun t => a.dyc t (i 1) * a.seen 1 t (i 1)) fun t => ?_).trans rfl
  rw [val_main_v54_apply, v31, v46]
  refine (mul_coe _ _).trans (congrArg (fun x : ℝ => (x : EReal)) ((mul_comm _ _).trans ?_))
  show a.dyc t (idx_main_v56 i 0) * a.seen 1 t (idx_main_v56 i 0) = _
  rw [e]

theorem v63 (i) : val_main_v63 (F := Ideal) (up a.x) (up a.g) (up a.w) (up a.dy) i = ((a.dcw 0 (i 1) : ℝ) : EReal) := by
  rw [val_main_v63_apply, val_main_v62_apply]
  have e : idx_main_v63 i 0 = i 1 := Fin.ext (by
    have h0 : (i 0).val < 1 := (i 0).isLt
    show (i 0).val * 1024 + (i 1).val = (i 1).val; omega)
  refine (zero_add_sum (p := fun t => a.dyc t (i 1) * a.seen 0 t (i 1)) fun t => ?_).trans rfl
  rw [val_main_v61_apply, v29, v46]
  refine (mul_coe _ _).trans (congrArg (fun x : ℝ => (x : EReal)) ((mul_comm _ _).trans ?_))
  show a.dyc t (idx_main_v63 i 0) * a.seen 0 t (idx_main_v63 i 0) = _
  rw [e]

theorem v67 (i) : val_main_v67 (F := Ideal) (up a.x) (up a.g) (up a.w) (up a.dy) i = ((a.dcw (i 0) (i 1) : ℝ) : EReal) := by
  rw [val_main_v67_apply, val_main_v60_apply]
  have e2 := pad_row pads_S1x1024_S3x1024_200_000 h_S_ (v := val_main_cst_6 (F := Ideal)) (fun _ => Ideal.ofBits_zero_f32) (v50 a) i
  have e1 := pad_row pads_S1x1024_S3x1024_110_000 h_S_ (v := val_main_cst_8 (F := Ideal)) (fun _ => Ideal.ofBits_zero_f32) (v56 a) i
  have e0 := pad_row pads_S1x1024_S3x1024_020_000 h_S_ (v := val_main_cst_10 (F := Ideal)) (fun _ => Ideal.ofBits_zero_f32) (v63 a) i
  refine (congrArg₂ (fun x y : EReal => x + y) (congrArg₂ (fun x y : EReal => x + y) e2 e1) e0).trans ?_
  show (_ : EReal) + _ + _ = _
  rw [add_coe, add_coe]
  refine congrArg (fun x : ℝ => (x : EReal)) ?_
  generalize (i 0 : Fin 3) = s
  fin_cases s <;> simp

theorem v52 (i) : val_main_v52 (F := Ideal) (up a.x) (up a.g) (up a.w) (up a.cw) (up a.dy) i = ((mat a.cw 2 (i 1) * a.dyc (i 0) (i 1) : ℝ) : EReal) := by
  rw [val_main_v52_apply, v46, val_main_v51_apply, val_main_v41_apply]
  refine (congrArg (fun x : EReal => _ * x) (up_mat a.cw _)).trans ((mul_coe _ _).trans ?_)
  exact congrArg (fun x : ℝ => (x : EReal)) (mul_comm _ _)

theorem v58 (i) : val_main_v58 (F := Ideal) (up a.x) (up a.g) (up a.w) (up a.cw) (up a.dy) i = ((mat a.cw 1 (i 1) * a.dyc (i 0) (i 1) : ℝ) : EReal) := by
  rw [val_main_v58_apply, v46, val_main_v57_apply, val_main_v37_apply]
  refine (congrArg (fun x : EReal => _ * x) (up_mat a.cw _)).trans ((mul_coe _ _).trans ?_)
  exact congrArg (fun x : ℝ => (x : EReal)) (mul_comm _ _)

theorem v65 (i) : val_main_v65 (F := Ideal) (up a.x) (up a.g) (up a.w) (up a.cw) (up a.dy) i = ((mat a.cw 0 (i 1) * a.dyc (i 0) (i 1) : ℝ) : EReal) := by
  rw [val_main_v65_apply, v46, val_main_v64_apply, val_main_v34_apply]
  refine (congrArg (fun x : EReal => _ * x) (up_mat a.cw _)).trans ((mul_coe _ _).trans ?_)
  exact congrArg (fun x : ℝ => (x : EReal)) (mul_comm _ _)

theorem v68 (i : S2x2048x1024.Idx) (t : Fin 4096) (k : Fin 1024) (h : (i 0).val * 2048 + (i 1).val = t.val)
    (h2 : (i 2).val = k.val) : val_main_v68 (F := Ideal) (up a.x) (up a.g) (up a.w) (up a.cw) (up a.dy) i
      = (((fun t k => mat a.cw 2 k * a.dyc t k) t k : ℝ) : EReal) := by
  rw [val_main_v68_apply, v52]
  obtain ⟨e0, e1⟩ := flat i h h2 rfl rfl
  exact congrArg (fun x : ℝ => (x : EReal)) (congrArg₂ (fun t k => mat a.cw 2 k * a.dyc t k) (Fin.ext e0) (Fin.ext e1))

theorem v70 (i : S2x2048x1024.Idx) (t : Fin 4096) (k : Fin 1024) (h : (i 0).val * 2048 + (i 1).val = t.val)
    (h2 : (i 2).val = k.val) : val_main_v70 (F := Ideal) (up a.x) (up a.g) (up a.w) (up a.cw) (up a.dy) i
      = (((fun t k => mat a.cw 1 k * a.dyc t k) t k : ℝ) : EReal) := by
  rw [val_main_v70_apply, v58]
  obtain ⟨e0, e1⟩ := flat i h h2 rfl rfl
  exact congrArg (fun x : ℝ => (x : EReal)) (congrArg₂ (fun t k => mat a.cw 1 k * a.dyc t k) (Fin.ext e0) (Fin.ext e1))

theorem v73 (i : S2x2048x1024.Idx) (t : Fin 4096) (k : Fin 1024) (h : (i 0).val * 2048 + (i 1).val = t.val)
    (h2 : (i 2).val = k.val) : val_main_v73 (F := Ideal) (up a.x) (up a.g) (up a.w) (up a.cw) (up a.dy) i
      = (((fun t k => mat a.cw 0 k * a.dyc t k) t k : ℝ) : EReal) := by
  rw [val_main_v73_apply, v65]
  obtain ⟨e0, e1⟩ := flat i h h2 rfl rfl
  exact congrArg (fun x : ℝ => (x : EReal)) (congrArg₂ (fun t k => mat a.cw 0 k * a.dyc t k) (Fin.ext e0) (Fin.ext e1))

theorem next_mul (n : ℕ) (w : Fin 1024 → ℝ) (f : Fin 4096 → Fin 1024 → ℝ) (t : Fin 4096) (k : Fin 1024) :
    next n (fun t k => w k * f t k) t k = w k * next n f t k := by
  rw [next, next]
  split
  · rfl
  · exact (mul_zero _).symm

theorem v78 (i) : val_main_v78 (F := Ideal) (up a.x) (up a.g) (up a.w) (up a.cw) (up a.dy) i = ((a.dq (i 0) (i 1) : ℝ) : EReal) := by
  rw [val_main_v78_apply, val_main_v77_apply, val_main_v75_apply, val_main_v72_apply]
  have h0 : (i 0).val < 4096 := (i 0).isLt
  have h1 : (i 1).val < 1024 := (i 1).isLt
  have j0 : (idx_main_v77 (idx_main_v78 i) 0).val = (i 0).val / 2048 :=
    show ((i 0).val * 1024 + (i 1).val) / 2097152 = (i 0).val / 2048 by omega
  have j1 : (idx_main_v77 (idx_main_v78 i) 1).val = (i 0).val % 2048 + 2 :=
    show 2 + ((i 0).val * 1024 + (i 1).val) / 1024 % 2048 = (i 0).val % 2048 + 2 by omega
  have j2 : (idx_main_v77 (idx_main_v78 i) 2).val = (i 1).val :=
    show ((i 0).val * 1024 + (i 1).val) % 1024 = (i 1).val by omega
  have e2 := pad_next pads_S2x2048x1024_S2x2050x1024_000_200_000 h_S_ (v := val_main_cst_11 (F := Ideal)) (fun _ => Ideal.ofBits_zero_f32)
    (v68 a) (by omega) (idx_main_v77 (idx_main_v78 i)) (i 0) (i 1) j0 j1 j2
  have e1 := pad_next pads_S2x2048x1024_S2x2050x1024_000_110_000 h_S_ (v := val_main_cst_12 (F := Ideal)) (fun _ => Ideal.ofBits_zero_f32)
    (v70 a) (by omega) (idx_main_v77 (idx_main_v78 i)) (i 0) (i 1) j0 j1 j2
  have e0 := pad_next pads_S2x2048x1024_S2x2050x1024_000_020_000 h_S_ (v := val_main_cst_13 (F := Ideal)) (fun _ => Ideal.ofBits_zero_f32)
    (v73 a) (by omega) (idx_main_v77 (idx_main_v78 i)) (i 0) (i 1) j0 j1 j2
  refine (congrArg₂ (fun x y : EReal => x + y) (congrArg₂ (fun x y : EReal => x + y) e2 e1) e0).trans ?_
  show (_ : EReal) + _ + _ = _
  rw [add_coe, add_coe]
  exact congrArg (fun x : ℝ => (x : EReal)) (congrArg₂ (fun x y : ℝ => x + y)
    (congrArg₂ (fun x y : ℝ => x + y) (next_zero _ _ _) (next_mul 1 _ _ _ _)) (next_mul 2 _ _ _ _))

theorem v79 (i) : val_main_v79 (F := Ideal) (up a.x) (up a.g) (up a.w) (up a.cw) (up a.dy) i = ((a.dxt (i 0) (i 1) : ℝ) : EReal) := by
  rw [val_main_v79_apply, v21, v78]
  exact (mul_coe _ _).trans (congrArg (fun x : ℝ => (x : EReal)) (mul_comm _ _))

theorem v80 (i) : val_main_v80 (F := Ideal) (up a.x) (up a.g) (up a.w) (up a.cw) (up a.dy) i = ((a.dgc (i 0) (i 1) : ℝ) : EReal) := by
  rw [val_main_v80_apply, v22, v78]; exact mul_coe _ _

theorem v81 (i) : val_main_v81 (F := Ideal) (up a.x) (up a.g) (up a.w) (up a.cw) (up a.dy) i = ((a.dp (i 0) (i 1) : ℝ) : EReal) := by
  have hi1 : (i 1).val < 3072 := (i 1).isLt
  by_cases h : (i 1).val < 1024
  · refine Eq.trans ?_ (congrArg (fun x : ℝ => (x : EReal)) (show a.dp (i 0) (i 1) = a.dgb (i 0) ⟨(i 1).val, h⟩ from dif_pos h)).symm
    refine (concatenate_apply_piece 1 _ _ i 0 (by show 0 < 3; decide) S4096x1024 (val_main_v47 (F := Ideal) (up a.x) (up a.g) (up a.w) (up a.cw) (up a.dy)) rfl rfl 0 rfl
      (ix2 (i 0) (⟨(i 1).val, h⟩ : Fin 1024)) (fun b hb => ?_) ?_).trans (v47 a _)
    · fin_cases b
      · rfl
      · exact absurd rfl hb
    · show 0 + (i 1).val = (i 1).val; omega
  · by_cases h' : (i 1).val < 2048
    · refine Eq.trans ?_ (congrArg (fun x : ℝ => (x : EReal))
        (show a.dp (i 0) (i 1) = a.dgc (i 0) ⟨(i 1).val - 1024, by omega⟩ from (dif_neg h).trans (dif_pos h'))).symm
      refine (concatenate_apply_piece 1 _ _ i 1 (by show 1 < 3; decide) S4096x1024 (val_main_v80 (F := Ideal) (up a.x) (up a.g) (up a.w) (up a.cw) (up a.dy)) rfl rfl 1024 rfl
        (ix2 (i 0) (⟨(i 1).val - 1024, by omega⟩ : Fin 1024)) (fun b hb => ?_) ?_).trans (v80 a _)
      · fin_cases b
        · rfl
        · exact absurd rfl hb
      · show 1024 + ((i 1).val - 1024) = (i 1).val; omega
    · refine Eq.trans ?_ (congrArg (fun x : ℝ => (x : EReal))
        (show a.dp (i 0) (i 1) = a.dxt (i 0) ⟨(i 1).val - 2048, by omega⟩ from (dif_neg h).trans (dif_neg h'))).symm
      refine (concatenate_apply_piece 1 _ _ i 2 (by show 2 < 3; decide) S4096x1024 (val_main_v79 (F := Ideal) (up a.x) (up a.g) (up a.w) (up a.cw) (up a.dy)) rfl rfl 2048 rfl
        (ix2 (i 0) (⟨(i 1).val - 2048, by omega⟩ : Fin 1024)) (fun b hb => ?_) ?_).trans (v79 a _)
      · fin_cases b
        · rfl
        · exact absurd rfl hb
      · show 2048 + ((i 1).val - 2048) = (i 1).val; omega

theorem v82 (i) : val_main_v82 (F := Ideal) (up a.x) (up a.g) (up a.w) (up a.cw) (up a.dy) i = ((a.dh (i 0) (i 1) : ℝ) : EReal) := by
  rw [val_main_v82_apply, sum_mul (fun k => v81 a _) fun k => up_mat a.w _]; rfl

theorem v85 (i) : val_main_v85 (F := Ideal) (up a.x) (up a.g) (up a.w) (up a.cw) (up a.dy) i = ((a.dgain (i 1) : ℝ) : EReal) := by
  rw [val_main_v85_apply, val_main_v84_apply]
  have e : idx_main_v85 i 0 = i 1 := Fin.ext (by
    have h0 : (i 0).val < 1 := (i 0).isLt
    show (i 0).val * 1024 + (i 1).val = (i 1).val; omega)
  refine (zero_add_sum (p := fun t => a.dh t (i 1) * xhat (tok a.x) t (i 1)) fun t => ?_).trans rfl
  rw [val_main_v83_apply, v16, v82]
  show (_ : EReal) * _ = _
  rw [mul_coe, mul_comm]
  show ((a.dh t (idx_main_v85 i 0) * xhat (tok a.x) t (idx_main_v85 i 0) : ℝ) : EReal) = _
  rw [e]

theorem v87 (i) : val_main_v87 (F := Ideal) (up a.x) (up a.g) (up a.w) (up a.cw) (up a.dy) i = ((a.dh (i 0) (i 1) * vec a.g (i 1) : ℝ) : EReal) := by
  rw [val_main_v87_apply, val_main_v86_apply, v82, v3]; exact mul_coe _ _

/-- The factor the mean square's gradient contributes to a row, spread over the row. -/
theorem v97 (i) : val_main_v97 (F := Ideal) (up a.x) (up a.g) (up a.w) (up a.cw) (up a.dy) i
    = ((Norm.coef (tok a.x (i 0)) (fun l => a.dh (i 0) l * vec a.g l) : ℝ) : EReal) := by
  rw [val_main_v97_apply, val_main_v96_apply]
  refine (zero_add_sum (p := fun _ => Norm.coef (tok a.x (i 0)) (fun l => a.dh (i 0) l * vec a.g l)) fun k => ?_).trans
    (by rw [Fin.sum_univ_one])
  rw [val_main_v95_apply, val_main_v93_apply, val_main_v90_apply, val_main_v89_apply, val_main_v94_apply, v14]
  have h : ∀ j k, val_main_v88 (F := Ideal) (up a.x) (up a.g) (up a.w) (up a.cw) (up a.dy)
      (idx_main_v89 j k) = ((tok a.x (j 0) k * (a.dh (j 0) k * vec a.g k) : ℝ) : EReal) := fun j k => by
    rw [val_main_v88_apply, v0, v87]; exact mul_coe _ _
  show Ideal.div ((Ideal.ofBits .f32 0x00000000#32 + _) * _) (Ideal.ofBits .f32 0x44800000#32) = _
  rw [zero_add_sum fun k => h _ k, f32_1024, mul_coe, div_coe' (by norm_num)]
  obtain rfl : k = 0 := Subsingleton.elim _ _
  have e : idx_main_v90 (idx_main_v96 (idx_main_v97 i) 0) 0 = i 0 := Fin.ext (by
    show (i 0).val * 1 + 0 = (i 0).val; omega)
  rw [e]; rfl

theorem v103 (i) : val_main_v103 (F := Ideal) (up a.x) (up a.g) (up a.w) (up a.cw) (up a.dy) (up a.dres) i = ((a.dstream (i 0) (i 1) : ℝ) : EReal) := by
  rw [val_main_v103_apply, val_main_v101_apply, val_main_v99_apply, val_main_v92_apply, val_main_v91_apply, val_main_v98_apply,
    val_main_v100_apply, v97, v0, v87, v11, v2]
  show (_ : EReal) + (_ * _ + _ * _ + _ * _) = _
  rw [mul_coe, mul_coe, mul_coe, add_coe, add_coe, add_coe]
  exact congrArg (fun r : ℝ => (r : EReal)) (a.dstream_of_product (i 0) (i 1))

theorem v102 (i) : val_main_v102 (F := Ideal) (up a.x) (up a.g) (up a.w) (up a.cw) (up a.dy) i = ((a.dp (i 0) (i 1) : ℝ) : EReal) := by
  rw [val_main_v102_apply, v81]; rfl

end Cert.ConvRefIdeal.Real

end
-- ==== Proof.ConvClaim.lean ====
/- The short convolution's gradient: the kernel's four results are the reference's, on finite arguments. -/
module

public import proofs.«01_k».proof.Defs
public import proofs.«01_k».proof.Proof.Finite
public import proofs.«01_k».proof.Proof.ConvValue
public import proofs.«01_k».proof.Proof.ConvStream
public import proofs.«01_k».proof.Proof.ConvTaps
public import proofs.«01_k».proof.Proof.ConvRef
public import proofs.«01_k».proof.Proof.Gen.ConvRefIdeal.Run
public import proofs.«01_k».proof.Proof.Gen.Pre_finite_c

@[expose] public section

set_option maxRecDepth 16384

noncomputable section

namespace Cert.Proof

open Idealize.ShloMosaic Idealize.ShloMosaic.TcCoe Idealize.SL.Sem
open Cert.Lift Cert.ShortConv Cert.ConvIdeal.Host

/-- Finite arguments are real arrays. -/
theorem conv_given {m : (ℓ : Loc Cert.ConvIdeal.nD Cert.ConvIdeal.τ Cert.ConvIdeal.sig) → Buf (Elt Ideal) ℓ}
    (h : Cert.Pre_ConvIdeal_finite_c m) (c : Dev Cert.ConvIdeal.nD) : ∃ a : Args, Given m c a := by
  obtain ⟨h0, h1, h2, h3, h4, h5⟩ := h c
  exact ⟨⟨_, _, _, _, _, _⟩, ⟨real_of_finite _ h0, real_of_finite _ h1, real_of_finite _ h2, real_of_finite _ h3,
    real_of_finite _ h4, real_of_finite _ h5⟩⟩

set_option maxHeartbeats 1600000 in
theorem conv_reference_frame : Cert.quiescent_ConvRefIdeal := by
  intro m g _
  hlo_run
  · exact fun _ => ⟨trivial, trivial, trivial, trivial, trivial, trivial⟩
  · exact sem_eq_zero_of_no_sems (sig := Cert.ConvRefIdeal.sig) (by decide) _

open Cert.ConvRefIdeal.Read Cert.ConvRefIdeal.Real Cert.ConvIdeal.Results in
set_option maxHeartbeats 1600000 in
theorem conv_algebraic : Cert.algebraic_ConvIdeal_ConvRefIdeal_pre_finite_c := by
  pair_intro
  · run_from Cert.ConvIdeal.Gen.run_main m g
  · run_from Cert.ConvRefIdeal.Value.run m' g'
    all_goals
      obtain ⟨a, h⟩ := conv_given hpre c
      obtain ⟨e0, e1, e2, e3, e4, e5⟩ := hagree c
    · rw [val_main_v102_eq m' c, e0, e1, e2, e3, e4, h.x, h.g, h.w, h.cw, h.dy]
      exact (funext fun i => v102 a i).trans (final11 h).symm
    · rw [val_main_v67_eq m' c, e0, e1, e2, e4, h.x, h.g, h.w, h.dy]
      exact (funext fun i => v67 a i).trans (final12 h).symm
    · rw [val_main_v103_eq m' c, e0, e1, e2, e3, e4, e5, h.x, h.g, h.w, h.cw, h.dy, h.dres]
      exact (funext fun i => v103 a i).trans (final13 h).symm
    · rw [val_main_v85_eq m' c, e0, e1, e2, e3, e4, h.x, h.g, h.w, h.cw, h.dy]
      exact (funext fun i => v85 a i).trans (final14 h).symm

end Cert.Proof

end
-- ==== Proof.FwdBody.lean ====
/- The SwiGLU block's forward pass over the extended reals, and one grid point of its kernel: 256 tokens, the hidden columns
   in three parts. -/
module

public import proofs.«01_k».proof.Proof.Blocks
public import proofs.«01_k».proof.Proof.Gen.FfnFwdIdeal.Skeleton
public import Idealize.ShloMosaic.Lib.Pointwise

@[expose] public section

set_option maxRecDepth 16384

noncomputable section

namespace Cert.Forward

open Idealize.ShloMosaic Cert.Lift

/-- The root mean square's reciprocal of a row. -/
def rs (x : Fin 1024 → EReal) : EReal :=
  Ideal.rsqrt (Ideal.div (∑ k, x k * x k) (Ideal.ofBits .f32 0x44800000#32) + Ideal.ofBits .f32 0x358637BD#32)

/-- The product of a row and a column. -/
def dot {n : ℕ} (x w : Fin n → EReal) : EReal := ∑ k, x k * w k

/-- A gate's activation times the other input. -/
def act (gate up : EReal) : EReal := gate * Ideal.logistic gate * up

/-- The forward pass's arguments. -/
structure Args where
  y : (⟨3, ![2, 2048, 1024]⟩ : Shape).Idx → EReal
  xin : (⟨3, ![2, 2048, 1024]⟩ : Shape).Idx → EReal
  g : (⟨1, ![1024]⟩ : Shape).Idx → EReal
  wo : (⟨2, ![1024, 1024]⟩ : Shape).Idx → EReal
  wg : (⟨2, ![1024, 2816]⟩ : Shape).Idx → EReal
  wu : (⟨2, ![1024, 2816]⟩ : Shape).Idx → EReal
  wd : (⟨2, ![2816, 1024]⟩ : Shape).Idx → EReal

/-- A token's channel. -/
def tok (x : (⟨3, ![2, 2048, 1024]⟩ : Shape).Idx → EReal) (t : Fin 4096) (k : Fin 1024) : EReal :=
  x (ix3 ⟨t.val / 2048, by omega⟩ ⟨t.val % 2048, by omega⟩ k)

namespace Args

variable (a : Args) (t : Fin 4096)

/-- The stream behind the mixer, -/
def x (k : Fin 1024) : EReal := tok a.xin t k + dot (tok a.y t) fun j => a.wo (ix2 j k)
/-- normalised, -/
def h (k : Fin 1024) : EReal := a.x t k * rs (a.x t) * a.g (ix1 k)
/-- the gate, -/
def gate (j : Fin 2816) : EReal := dot (a.h t) fun k => a.wg (ix2 k j)
/-- the other input, -/
def up (j : Fin 2816) : EReal := dot (a.h t) fun k => a.wu (ix2 k j)
/-- the activation, -/
def hid (j : Fin 2816) : EReal := act (a.gate t j) (a.up t j)
/-- and the stream behind the block. -/
def out (k : Fin 1024) : EReal := a.x t k + dot (a.hid t) fun j => a.wd (ix2 j k)

end Args

/-- The hidden columns' sum in three parts. -/
theorem sum_parts (f : Fin 2816 → EReal) : ∑ j, f j = (∑ j : Fin 1024, f (from' 0 (by omega) j))
    + (∑ j : Fin 1024, f (from' 1024 (by omega) j)) + ∑ j : Fin 768, f (from' 2048 (by omega) j) := by
  have e := Fin.sum_univ_add (a := 1024 + 1024) (b := 768) f
  have e' := Fin.sum_univ_add (a := 1024) (b := 1024) fun j => f (Fin.castAdd 768 j)
  refine e.trans (congrArg₂ (· + ·) (e'.trans (congrArg₂ (· + ·) ?_ ?_)) ?_)
  · exact Finset.sum_congr rfl fun j _ => congrArg f (Fin.ext (Nat.zero_add _).symm)
  · exact Finset.sum_congr rfl fun j _ => congrArg f (Fin.ext rfl)
  · exact Finset.sum_congr rfl fun j _ => congrArg f (Fin.ext rfl)

/-- Two products of entries that agree. -/
theorem dot_congr {n : ℕ} {f g p q : Fin n → EReal} (hf : ∀ k, f k = p k) (hg : ∀ k, g k = q k) :
    ∑ k, f k * g k = dot p q :=
  Finset.sum_congr rfl fun k _ => congrArg₂ (· * ·) (hf k) (hg k)

end Cert.Forward

namespace Cert.FfnFwdIdeal.Body

open Idealize.ShloMosaic Cert.FfnFwdIdeal Cert.FfnFwdIdeal.Gen Cert.Lift Cert.Forward

theorem x {v0 : FVec Ideal S256x1024 .f32} {v2 : FVec Ideal S256x1024 .bf16} {v4 : FVec Ideal S1024x1024 .bf16} {X Y : Fin 256 → Fin 1024 → EReal}
    {W : Fin 1024 → Fin 1024 → EReal}
    (h0 : Is v0 X) (h2 : Is v2 Y) (h4 : Is v4 W) : Is (k0_pay7 (F := Ideal) v0 v2 v4) fun r k => X r k + dot (Y r) fun j => W j k := by
  intro r k
  pointwise [k0_pay7]
  exact congrArg₂ (· + ·) (h0 r k) (dot_congr (h2 r) fun j => h4 j k)

theorem h {v0 : FVec Ideal S256x1024 .f32} {v2 : FVec Ideal S256x1024 .bf16} {v4 : FVec Ideal S1024x1024 .bf16}
    {v19 : FVec Ideal S1x1024 .f32} {X : Fin 256 → Fin 1024 → EReal} {G : Fin 1 → Fin 1024 → EReal} (h0 : Is (k0_pay7 (F := Ideal) v0 v2 v4) X) (h19 : Is v19 G) :
    Is (k0_pay8 (F := Ideal) v0 v2 v4 v19) fun r k => X r k * rs (X r) * G 0 k := by
  intro r k
  pointwise [k0_pay8]
  refine congrArg₂ (· * ·) (congrArg₂ (· * ·) (h0 r k) (congrArg Ideal.rsqrt (congrArg (· + _) (congrArg (Ideal.div · _) ?_)))) (h19 0 k)
  exact dot_congr (h0 r) (h0 r)

theorem hidden {v : FVec Ideal S256x1024 .bf16} {w : FVec Ideal S1024x1024 .bf16} {H : Fin 256 → Fin 1024 → EReal}
    {W : Fin 1024 → Fin 1024 → EReal} (hv : Is v H) (hw : Is w W) :
    Is (k0_pay14 (F := Ideal) v w) fun r l => dot (H r) (W l) := by
  intro r l
  pointwise [k0_pay14]
  exact dot_congr (hv r) (hw l)

theorem hidden' {v : FVec Ideal S256x1024 .bf16} {w : FVec Ideal S768x1024 .bf16} {H : Fin 256 → Fin 1024 → EReal}
    {W : Fin 768 → Fin 1024 → EReal} (hv : Is v H) (hw : Is w W) :
    Is (k0_pay1 (F := Ideal) v w) fun r l => dot (H r) (W l) := by
  intro r l
  pointwise [k0_pay1]
  exact dot_congr (hv r) (hw l)

theorem a {v w : FVec Ideal S256x1024 .f32} {G U : Fin 256 → Fin 1024 → EReal} (hv : Is v G) (hw : Is w U) : Is (k0_pay13 (F := Ideal) v w) fun r l => act (G r l) (U r l) := by
  intro r l
  pointwise [k0_pay13]
  exact congrArg₂ act (hv r l) (hw r l)

theorem a' {v : FVec Ideal S256x1024 .bf16} {w u : FVec Ideal S768x1024 .bf16} {G U : Fin 256 → Fin 768 → EReal} (hv : Is (k0_pay1 (F := Ideal) v w) G)
    (hw : Is (k0_pay2 (F := Ideal) v u) U) : Is (k0_pay5 (F := Ideal) v w u) fun r l => act (G r l) (U r l) := by
  intro r l
  pointwise [k0_pay5]
  exact congrArg₂ act (hv r l) (hw r l)

theorem out {v7 : FVec Ideal S256x1024 .f32} {v23 : FVec Ideal S256x1024 .bf16} {v27 v30 : FVec Ideal S256x1024 .f32}
    {v40 v43 v46 v58 : FVec Ideal S1024x1024 .bf16} {v62 v65 v77 : FVec Ideal S768x1024 .bf16} {X A0 A1 : Fin 256 → Fin 1024 → EReal}
    {A2 : Fin 256 → Fin 768 → EReal} {W0 W1 : Fin 1024 → Fin 1024 → EReal} {W2 : Fin 768 → Fin 1024 → EReal}
    (h7 : Is v7 X) (h0 : Is (k0_pay13 (F := Ideal) v27 v30) A0) (h1 : Is (k0_pay18 (F := Ideal) v23 v43 v46) A1) (h2 : Is (k0_pay5 (F := Ideal) v23 v62 v65) A2)
    (w0 : Is v40 W0) (w1 : Is v58 W1) (w2 : Is v77 W2) :
    Is (k0_pay6 (F := Ideal) v7 v23 (k0_pay19 v23 v27 v30 v40 v43 v46 v58) v62 v65 v77) fun r k =>
      X r k + (dot (A0 r) (fun j => W0 j k) + dot (A1 r) (fun j => W1 j k) + dot (A2 r) fun j => W2 j k) := by
  intro r k
  pointwise [k0_pay6, k0_pay19]
  exact congrArg₂ (· + ·) (h7 r k) (congrArg₂ (· + ·) (congrArg₂ (· + ·) (dot_congr (h0 r) fun j => w0 j k)
    (dot_congr (h1 r) fun j => w1 j k)) (dot_congr (h2 r) fun j => w2 j k))

end Cert.FfnFwdIdeal.Body

end
-- ==== Proof.FwdHost.lean ====
/- What the forward kernel's operands hold when it starts: the blocks of one grid point, 256 tokens. -/
module

public import proofs.«01_k».proof.Proof.FwdBody
public import proofs.«01_k».proof.Proof.Gen.FfnFwdIdeal.Value
public import Idealize.ShloMosaic.Lib.Pipeline.ValueKit
public import Idealize.ShloMosaic.Lib.Claim

@[expose] public section

set_option maxRecDepth 16384

noncomputable section

namespace Cert.FfnFwdIdeal.Host

open Idealize.ShloMosaic Idealize.ShloMosaic.TcCoe Idealize.SL.Sem
open Cert.FfnFwdIdeal Cert.FfnFwdIdeal.Gen Cert.Lift Cert.Forward

variable (m : (ℓ : Loc nD τ sig) → Buf (Elt Ideal) ℓ) (c : Dev nD)

/-- The kernel's arguments. -/
def given : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6)⟩

/-- The windows' index maps: the token blocks move with the point, the weights stay. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- The token of row `r` of point `t`'s blocks. -/
def row (t : Fin cfg0.N) (r : Fin 256) : Fin 4096 :=
  ⟨t.val * 256 + r.val, by have := N_0; have : t.val < grid0.N := t.isLt; omega⟩

theorem place0 (t : Fin cfg0.N) (r : Fin 256) (k : Fin 1024) : (win0_0.blk t).view.emb (ix2 r k) = ix2 (row t r) k := by
  blk_ext [idx t, row]

theorem place1 (t : Fin cfg0.N) (r : Fin 1024) (k : Fin 1024) : (win0_1.blk t).view.emb (ix2 r k) = ix2 r k := by
  blk_ext [idx t, row]

theorem place2 (t : Fin cfg0.N) (r : Fin 256) (k : Fin 1024) : (win0_2.blk t).view.emb (ix2 r k) = ix2 (row t r) k := by
  blk_ext [idx t, row]

theorem place3 (t : Fin cfg0.N) (r : Fin 1) (k : Fin 1024) : (win0_3.blk t).view.emb (ix2 r k) = ix2 r k := by
  blk_ext [idx t, row]

theorem place4 (t : Fin cfg0.N) (r : Fin 2816) (k : Fin 1024) : (win0_4.blk t).view.emb (ix2 r k) = ix2 r k := by
  blk_ext [idx t, row]

theorem place5 (t : Fin cfg0.N) (r : Fin 2816) (k : Fin 1024) : (win0_5.blk t).view.emb (ix2 r k) = ix2 r k := by
  blk_ext [idx t, row]

theorem place6 (t : Fin cfg0.N) (r : Fin 2816) (k : Fin 1024) : (win0_6.blk t).view.emb (ix2 r k) = ix2 r k := by
  blk_ext [idx t, row]

theorem blk0 (t : Fin cfg0.N) : Is (iblk m c 0 t) fun r k => tok (given m c).y (row t r) k := by
  intro r k
  blk_simp [iblk]
  rw [place0]
  entry_read
  pointwise
  rfl

theorem blk1 (t : Fin cfg0.N) : Is (iblk m c 1 t) fun j k => (given m c).wo (ix2 j k) := by
  intro r k
  blk_simp [iblk]
  rw [place1]
  entry_read
  pointwise
  rfl

theorem blk2 (t : Fin cfg0.N) : Is (iblk m c 2 t) fun r k => tok (given m c).xin (row t r) k := by
  intro r k
  blk_simp [iblk]
  rw [place2]
  entry_read
  pointwise
  rfl

theorem blk3 (t : Fin cfg0.N) : Is (iblk m c 3 t) fun _ k => (given m c).g (ix1 k) := by
  intro r k
  blk_simp [iblk]
  rw [place3]
  entry_read
  pointwise
  rfl

theorem blk4 (t : Fin cfg0.N) : Is (iblk m c 4 t) fun j k => (given m c).wg (ix2 k j) := by
  intro r k
  blk_simp [iblk]
  rw [place4]
  entry_read
  pointwise
  rfl

theorem blk5 (t : Fin cfg0.N) : Is (iblk m c 5 t) fun j k => (given m c).wu (ix2 k j) := by
  intro r k
  blk_simp [iblk]
  rw [place5]
  entry_read
  pointwise
  rfl

theorem blk6 (t : Fin cfg0.N) : Is (iblk m c 6 t) fun j k => (given m c).wd (ix2 j k) := by
  intro r k
  blk_simp [iblk]
  rw [place6]
  entry_read
  pointwise
  rfl

end Cert.FfnFwdIdeal.Host

end
-- ==== Proof.FwdValue.lean ====
/- What the forward kernel leaves: the stream ahead of and behind the block, and the values the backward pass needs. -/
module

public import proofs.«01_k».proof.Proof.FwdHost

@[expose] public section

set_option maxRecDepth 16384

noncomputable section

namespace Cert.FfnFwdIdeal.Results

open Idealize.ShloMosaic Idealize.ShloMosaic.TcCoe Idealize.SL.Sem
open Cert.FfnFwdIdeal Cert.FfnFwdIdeal.Gen Cert.FfnFwdIdeal.Host Cert.Lift Cert.Forward

/-- A block of point `t`, at an index of the whole array. -/
theorem of_block {n : ℕ} {v : (⟨2, ![256, n]⟩ : Shape).Idx → EReal} {f : Fin 4096 → Fin n → EReal} {t : Fin cfg0.N}
    (hv : Is v fun r l => f (row t r) l) (y : (⟨2, ![256, n]⟩ : Shape).Idx) (i : Fin 4096) (j : Fin n)
    (hi : i.val = t.val * 256 + (y 0).val) (hj : j.val = (y 1).val) : v y = f i j := by
  have e : v y = v (ix2 (y 0) (y 1)) := congrArg v (eq_ix2 y)
  refine e.trans ((hv (y 0) (y 1)).trans ?_)
  exact congrArg₂ f (Fin.ext hi.symm) (Fin.ext hj.symm)

/-- A part of point `t`'s columns, at an index of the whole array. -/
theorem of_part {n n' o : ℕ} {v : (⟨2, ![256, n']⟩ : Shape).Idx → EReal} {f : Fin 4096 → Fin n → EReal} {t : Fin cfg0.N}
    {ho : o + n' ≤ n} (hv : Is v fun r l => f (row t r) (from' o ho l)) (x : (⟨2, ![256, n']⟩ : Shape).Idx)
    (i : Fin 4096) (j : Fin n) (hi : i.val = t.val * 256 + (x 0).val) (hj : j.val = o + (x 1).val) : v x = f i j := by
  have e : v x = v (ix2 (x 0) (x 1)) := congrArg v (eq_ix2 x)
  refine e.trans ((hv (x 0) (x 1)).trans ?_)
  exact congrArg₂ f (Fin.ext hi.symm) (Fin.ext hj.symm)

variable (m : (ℓ : Loc nD τ sig) → Buf (Elt Ideal) ℓ) (c : Dev nD)

theorem x_point (t : Fin cfg0.N) : Is (k0_pay7 (iblk m c 2 t) (iblk m c 0 t) (iblk m c 1 t)) fun r k => (given m c).x (row t r) k :=
  Body.x (blk2 m c t) (blk0 m c t) (blk1 m c t)

theorem h_point (t : Fin cfg0.N) : Is (k0_pay8 (iblk m c 2 t) (iblk m c 0 t) (iblk m c 1 t) (iblk m c 3 t))
    fun r k => (given m c).h (row t r) k :=
  Body.h (x_point m c t) (blk3 m c t)

theorem final7 : (dats m 0 c).arrAt 7 (cfgs 0).N = fun i => (given m c).x (i 0) (i 1) := by
  refine (dats m 0 c).arrAt_eq_of_covers 7 _ (by decide +kernel) fun t _ y => ?_
  blk_simp
  rw [after0_7]
  unfold outsAt0
  frame_out
  exact of_block (x_point m c t) y _ _ (by blk_simp [idx t]) (by blk_simp [idx t])

theorem final12 : (dats m 0 c).arrAt 12 (cfgs 0).N = fun i => (given m c).h (i 0) (i 1) := by
  refine (dats m 0 c).arrAt_eq_of_covers 12 _ (by decide +kernel) fun t _ y => ?_
  blk_simp
  rw [after0_12]
  unfold outsAt0
  frame_out
  exact of_block (h_point m c t) y _ _ (by blk_simp [idx t]) (by blk_simp [idx t])

/-! The hidden columns come in three parts. -/

theorem gate0 (t : Fin cfg0.N) {v : FVec Ideal S256x1024 .bf16} {w : FVec Ideal S1024x1024 .bf16} {o : ℕ} {ho : o + 1024 ≤ 2816}
    (hv : Is v fun r k => (given m c).h (row t r) k) (hw : Is w fun j k => (given m c).wg (ix2 k (from' o ho j))) :
    Is (k0_pay14 (F := Ideal) v w) fun r l => (given m c).gate (row t r) (from' o ho l) :=
  Body.hidden hv hw

theorem gate1 (t : Fin cfg0.N) {v : FVec Ideal S256x1024 .bf16} {w : FVec Ideal S768x1024 .bf16} {o : ℕ} {ho : o + 768 ≤ 2816}
    (hv : Is v fun r k => (given m c).h (row t r) k) (hw : Is w fun j k => (given m c).wg (ix2 k (from' o ho j))) :
    Is (k0_pay1 (F := Ideal) v w) fun r l => (given m c).gate (row t r) (from' o ho l) :=
  Body.hidden' hv hw

theorem up0 (t : Fin cfg0.N) {v : FVec Ideal S256x1024 .bf16} {w : FVec Ideal S1024x1024 .bf16} {o : ℕ} {ho : o + 1024 ≤ 2816}
    (hv : Is v fun r k => (given m c).h (row t r) k) (hw : Is w fun j k => (given m c).wu (ix2 k (from' o ho j))) :
    Is (k0_pay14 (F := Ideal) v w) fun r l => (given m c).up (row t r) (from' o ho l) :=
  Body.hidden hv hw

theorem up1 (t : Fin cfg0.N) {v : FVec Ideal S256x1024 .bf16} {w : FVec Ideal S768x1024 .bf16} {o : ℕ} {ho : o + 768 ≤ 2816}
    (hv : Is v fun r k => (given m c).h (row t r) k) (hw : Is w fun j k => (given m c).wu (ix2 k (from' o ho j))) :
    Is (k0_pay1 (F := Ideal) v w) fun r l => (given m c).up (row t r) (from' o ho l) :=
  Body.hidden' hv hw

theorem final9 : (dats m 0 c).arrAt 9 (cfgs 0).N = fun i => (given m c).gate (i 0) (i 1) := by
  refine (dats m 0 c).arrAt_eq_of_covers 9 _ (by decide +kernel) fun t _ y => ?_
  blk_simp
  rw [after0_9]
  unfold outsAt0
  have hh := h_point m c t
  have h4 := blk4 m c t
  frame_out
  canon_tiles x hx using View.cover_of_tiledBy _ ![256, 256] (by sl_kernel_rfl) y
  on_goal 1 => refine of_part (f := (given m c).gate) (o := 2048) (ho := by omega) (gate1 m c t hh (h4.rows _ _)) x _ _ ?_ ?_
  on_goal 3 => refine of_part (f := (given m c).gate) (o := 1024) (ho := by omega) (gate0 m c t hh (h4.rows _ _)) x _ _ ?_ ?_
  on_goal 5 => refine of_part (f := (given m c).gate) (o := 0) (ho := by omega) (gate0 m c t hh (h4.rows _ _)) x _ _ ?_ ?_
  all_goals (blk_simp [idx t] <;> try omega)

theorem final10 : (dats m 0 c).arrAt 10 (cfgs 0).N = fun i => (given m c).up (i 0) (i 1) := by
  refine (dats m 0 c).arrAt_eq_of_covers 10 _ (by decide +kernel) fun t _ y => ?_
  blk_simp
  rw [after0_10]
  unfold outsAt0
  have hh := h_point m c t
  have h5 := blk5 m c t
  frame_out
  canon_tiles x hx using View.cover_of_tiledBy _ ![256, 256] (by sl_kernel_rfl) y
  on_goal 1 => refine of_part (f := (given m c).up) (o := 2048) (ho := by omega) (up1 m c t hh (h5.rows _ _)) x _ _ ?_ ?_
  on_goal 3 => refine of_part (f := (given m c).up) (o := 1024) (ho := by omega) (up0 m c t hh (h5.rows _ _)) x _ _ ?_ ?_
  on_goal 5 => refine of_part (f := (given m c).up) (o := 0) (ho := by omega) (up0 m c t hh (h5.rows _ _)) x _ _ ?_ ?_
  all_goals (blk_simp [idx t] <;> try omega)

theorem hid0 (t : Fin cfg0.N) {v : FVec Ideal S256x1024 .bf16} {w u : FVec Ideal S1024x1024 .bf16} {o : ℕ} {ho : o + 1024 ≤ 2816}
    (hv : Is v fun r k => (given m c).h (row t r) k) (hw : Is w fun j k => (given m c).wg (ix2 k (from' o ho j)))
    (hu : Is u fun j k => (given m c).wu (ix2 k (from' o ho j))) :
    Is (k0_pay18 (F := Ideal) v w u) fun r l => (given m c).hid (row t r) (from' o ho l) :=
  Body.a (gate0 m c t hv hw) (up0 m c t hv hu)

theorem hid1 (t : Fin cfg0.N) {v : FVec Ideal S256x1024 .bf16} {w u : FVec Ideal S768x1024 .bf16} {o : ℕ} {ho : o + 768 ≤ 2816}
    (hv : Is v fun r k => (given m c).h (row t r) k) (hw : Is w fun j k => (given m c).wg (ix2 k (from' o ho j)))
    (hu : Is u fun j k => (given m c).wu (ix2 k (from' o ho j))) :
    Is (k0_pay5 (F := Ideal) v w u) fun r l => (given m c).hid (row t r) (from' o ho l) :=
  Body.a' (gate1 m c t hv hw) (up1 m c t hv hu)

theorem final11 : (dats m 0 c).arrAt 11 (cfgs 0).N = fun i => (given m c).hid (i 0) (i 1) := by
  refine (dats m 0 c).arrAt_eq_of_covers 11 _ (by decide +kernel) fun t _ y => ?_
  blk_simp
  rw [after0_11]
  unfold outsAt0
  have hh := h_point m c t
  have h4 := blk4 m c t
  have h5 := blk5 m c t
  frame_out
  canon_tiles x hx using View.cover_of_tiledBy _ ![256, 256] (by sl_kernel_rfl) y
  on_goal 1 => refine of_part (f := (given m c).hid) (o := 2048) (ho := by omega) (hid1 m c t hh (h4.rows _ _) (h5.rows _ _)) x _ _ ?_ ?_
  on_goal 3 => refine of_part (f := (given m c).hid) (o := 1024) (ho := by omega) (hid0 m c t hh (h4.rows _ _) (h5.rows _ _)) x _ _ ?_ ?_
  on_goal 5 => refine of_part (f := (given m c).hid) (o := 0) (ho := by omega) (hid0 m c t hh (h4.rows _ _) (h5.rows _ _)) x _ _ ?_ ?_
  all_goals (blk_simp [idx t] <;> try omega)

/-- The stream behind the block, its sum in three parts. -/
theorem out_point (t : Fin cfg0.N) {v7 : FVec Ideal S256x1024 .f32} {v23 : FVec Ideal S256x1024 .bf16} {v27 v30 : FVec Ideal S256x1024 .f32}
    {v40 v43 v46 v58 : FVec Ideal S1024x1024 .bf16} {v62 v65 v77 : FVec Ideal S768x1024 .bf16} (h7 : Is v7 fun r k => (given m c).x (row t r) k)
    (h0 : Is (k0_pay13 (F := Ideal) v27 v30) fun r l => (given m c).hid (row t r) (from' 0 (by omega) l))
    (h1 : Is (k0_pay18 (F := Ideal) v23 v43 v46) fun r l => (given m c).hid (row t r) (from' 1024 (by omega) l))
    (h2 : Is (k0_pay5 (F := Ideal) v23 v62 v65) fun r l => (given m c).hid (row t r) (from' 2048 (by omega) l))
    (w0 : Is v40 fun j k => (given m c).wd (ix2 (from' 0 (by omega) j) k)) (w1 : Is v58 fun j k => (given m c).wd (ix2 (from' 1024 (by omega) j) k))
    (w2 : Is v77 fun j k => (given m c).wd (ix2 (from' 2048 (by omega) j) k)) :
    Is (k0_pay6 (F := Ideal) v7 v23 (k0_pay19 v23 v27 v30 v40 v43 v46 v58) v62 v65 v77) fun r k => (given m c).out (row t r) k := by
  intro r k
  refine (Body.out h7 h0 h1 h2 w0 w1 w2 r k).trans ?_
  exact congrArg ((given m c).x (row t r) k + ·) (sum_parts fun j => (given m c).hid (row t r) j * (given m c).wd (ix2 j k)).symm

theorem final8 : (dats m 0 c).arrAt 8 (cfgs 0).N = fun i => (given m c).out (i 0) (i 1) := by
  refine (dats m 0 c).arrAt_eq_of_covers 8 _ (by decide +kernel) fun t _ y => ?_
  blk_simp
  rw [after0_8]
  unfold outsAt0
  have hh := h_point m c t
  have h4 := blk4 m c t
  have h5 := blk5 m c t
  have h6 := blk6 m c t
  frame_out
  exact of_block (out_point m c t (x_point m c t) (hid0 m c t (o := 0) (ho := by omega) hh (h4.rows _ _) (h5.rows _ _)) (hid0 m c t hh (h4.rows _ _) (h5.rows _ _))
    (hid1 m c t hh (h4.rows _ _) (h5.rows _ _)) (h6.rows _ _) (h6.rows _ _) (h6.rows _ _)) y _ _ (by blk_simp [idx t]) (by blk_simp [idx t])

end Cert.FfnFwdIdeal.Results

end
-- ==== Proof.FwdClaim.lean ====
/- The SwiGLU block's forward pass: the kernel's six results are the reference's. -/
module

public import proofs.«01_k».proof.Defs
public import proofs.«01_k».proof.Proof.FwdValue
public import proofs.«01_k».proof.Proof.Gen.FfnFwdRefIdeal.Read
public import proofs.«01_k».proof.Proof.Gen.FfnFwdRefIdeal.Run

@[expose] public section

set_option maxRecDepth 16384

noncomputable section

namespace Cert.FfnFwdRefIdeal.Real

open Idealize.ShloMosaic Idealize.ShloMosaic.TcCoe Idealize.SL.Sem
open Cert.FfnFwdRefIdeal Cert.FfnFwdRefIdeal.Read Cert.Forward

variable (a : Args)

theorem v3 (t : Fin 4096) (k : Fin 1024) : val_main_v3 (F := Ideal) a.y a.xin a.wo (ix2 t k) = a.x t k := by
  pointwise [val_main_v3, val_main_v2, val_main_v1, val_main_v0]
  rfl

theorem v16 (t : Fin 4096) (k : Fin 1024) : val_main_v16 (F := Ideal) a.y a.xin a.g a.wo (ix2 t k) = a.h t k := by
  pointwise [val_main_v16, val_main_v15, val_main_v14, val_main_v13, val_main_v12, val_main_v11, val_main_v10, val_main_v9,
    val_main_v8, val_main_v7, val_main_v6, val_main_v5, val_main_v4, val_main_cst, val_main_cst_0, val_main_cst_1]
  simp only [v3 a]
  rfl

theorem v17 (t : Fin 4096) (j : Fin 2816) : val_main_v17 (F := Ideal) a.y a.xin a.g a.wo a.wg (ix2 t j) = a.gate t j := by
  pointwise [val_main_v17]
  exact dot_congr (v16 a t) fun k => rfl

theorem v18 (t : Fin 4096) (j : Fin 2816) : val_main_v18 (F := Ideal) a.y a.xin a.g a.wo a.wu (ix2 t j) = a.up t j := by
  pointwise [val_main_v18]
  exact dot_congr (v16 a t) fun k => rfl

theorem v20 (t : Fin 4096) (j : Fin 2816) : val_main_v20 (F := Ideal) a.y a.xin a.g a.wo a.wg a.wu (ix2 t j) = a.hid t j := by
  pointwise [val_main_v20, val_main_v19, val_main_call0_v5, val_main_call0_v4, val_main_call0_v3, val_main_call0_v2,
    val_main_call0_v1, val_main_call0_v0, val_main_call0_cst, val_main_call0_cst_0]
  simp only [v17 a, v18 a]
  rfl

theorem v22 (t : Fin 4096) (k : Fin 1024) :
    val_main_v22 (F := Ideal) a.y a.xin a.g a.wo a.wg a.wu a.wd (ix2 t k) = a.out t k := by
  pointwise [val_main_v22, val_main_v21]
  exact congrArg₂ (· + ·) (v3 a t k) (dot_congr (v20 a t) fun j => rfl)

/-- An array from its entries. -/
theorem ext2 {n m : ℕ} {v : (⟨2, ![n, m]⟩ : Shape).Idx → EReal} {f : Fin n → Fin m → EReal} (h : ∀ r k, v (ix2 r k) = f r k) :
    v = fun i => f (i 0) (i 1) :=
  funext fun i => (congrArg v (eq_ix2 i)).trans (h (i 0) (i 1))

end Cert.FfnFwdRefIdeal.Real

namespace Cert.Proof

open Idealize.ShloMosaic Idealize.ShloMosaic.TcCoe Idealize.SL.Sem
open Cert.FfnFwdRefIdeal.Read Cert.FfnFwdRefIdeal.Real Cert.FfnFwdIdeal.Results Cert.FfnFwdIdeal.Host

set_option maxHeartbeats 1600000 in
theorem fwd_algebraic : Cert.algebraic_FfnFwdIdeal_FfnFwdRefIdeal := by
  pair_intro
  · run_from Cert.FfnFwdIdeal.Gen.run_main m g
  · run_from Cert.FfnFwdRefIdeal.Value.run m' g'
    all_goals
      obtain ⟨e0, e1, e2, e3, e4, e5, e6⟩ := hagree c
    · exact ((val_main_v3_eq (F := Ideal) _ _ _).trans (ext2 (v3 (given m c)))).trans (final7 m c).symm
    · rw [val_main_v22_eq m' c, e0, e1, e2, e3, e4, e5, e6]
      exact (ext2 (v22 (given m c))).trans (final8 m c).symm
    · exact ((val_main_v23_eq (F := Ideal) _ _ _ _ _).trans (ext2 (v17 (given m c)))).trans (final9 m c).symm
    · exact ((val_main_v24_eq (F := Ideal) _ _ _ _ _).trans (ext2 (v18 (given m c)))).trans (final10 m c).symm
    · rw [val_main_v25_eq m' c, e0, e1, e2, e3, e4, e5]
      exact (ext2 (v20 (given m c))).trans (final11 m c).symm
    · exact ((val_main_v26_eq (F := Ideal) _ _ _ _).trans (ext2 (v16 (given m c)))).trans (final12 m c).symm

set_option maxHeartbeats 1600000 in
theorem fwd_reference_frame : Cert.quiescent_FfnFwdRefIdeal := by
  intro m g _
  hlo_run
  · exact fun _ => ⟨trivial, trivial, trivial, trivial, trivial, trivial, trivial⟩
  · exact sem_eq_zero_of_no_sems (sig := Cert.FfnFwdRefIdeal.sig) (by decide) _

end Cert.Proof

end
-- ==== Proof.lean ====
/- The certificate's claims: frames, preservation, and three calls of the SwiGLU block, forward and backward,
   and the short convolution's gradient, against their references. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal.Read
public import proofs.«01_k».proof.Proof.Gen.FfnRefIdeal.Run
public import proofs.«01_k».proof.Proof.Gen.FfnRefIdeal
public import proofs.«01_k».proof.Proof.Gen.Pre_finite_f
public import proofs.«01_k».proof.Proof.Gen.FfnDw
public import proofs.«01_k».proof.Proof.Gen.FfnDw.Skeleton
public import proofs.«01_k».proof.Proof.Gen.FfnDw.Launch
public import proofs.«01_k».proof.Proof.Gen.FfnDw.Points
public import proofs.«01_k».proof.Proof.Gen.FfnDw.Frame
public import proofs.«01_k».proof.Proof.Gen.FfnDwIdeal
public import proofs.«01_k».proof.Proof.Gen.FfnDwIdeal.Skeleton
public import proofs.«01_k».proof.Proof.Gen.FfnDwIdeal.Launch
public import proofs.«01_k».proof.Proof.Gen.FfnDwIdeal.Points
public import proofs.«01_k».proof.Proof.Gen.FfnDwIdeal.Frame
public import proofs.«01_k».proof.Proof.Gen.FfnDwIdeal.Value
public import proofs.«01_k».proof.Proof.Gen.FfnDwRefIdeal.Read
public import proofs.«01_k».proof.Proof.Gen.FfnDwRefIdeal.Run
public import proofs.«01_k».proof.Proof.Gen.FfnDwRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal.Read
public import proofs.«01_k».proof.Proof.Gen.ConvRefIdeal.Run
public import proofs.«01_k».proof.Proof.Gen.ConvRefIdeal
public import proofs.«01_k».proof.Proof.Gen.Pre_finite_c
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal.Read
public import proofs.«01_k».proof.Proof.Gen.FfnFwdRefIdeal.Run
public import proofs.«01_k».proof.Proof.Gen.FfnFwdRefIdeal
public import proofs.«01_k».proof.Proof.FfnClaim
public import proofs.«01_k».proof.Proof.DwClaim
public import proofs.«01_k».proof.Proof.ConvClaim
public import proofs.«01_k».proof.Proof.FwdClaim
public import Idealize.ShloMosaic.Adequacy
public import Idealize.ShloMosaic.Init

@[expose] public section

noncomputable section

namespace Cert.Proof

open Idealize.ShloMosaic Idealize.SL.Sem

set_option maxHeartbeats 1600000 in
theorem ffn_reference_frame : Cert.quiescent_FfnRefIdeal := by
  intro m g _
  hlo_run
  · exact fun _ => ⟨trivial, trivial, trivial, trivial, trivial, trivial, trivial, trivial⟩
  · exact sem_eq_zero_of_no_sems (sig := Cert.FfnRefIdeal.sig) (by decide) _

theorem claim : Cert.Claim := ⟨Cert.Ffn.Gen.facts, Cert.FfnIdeal.Gen.facts, Cert.FfnRefIdeal.Gen.facts,
  Cert.FfnDw.Gen.facts, Cert.FfnDwIdeal.Gen.facts, Cert.FfnDwRefIdeal.Gen.facts,
  Cert.Conv.Gen.facts, Cert.ConvIdeal.Gen.facts, Cert.ConvRefIdeal.Gen.facts,
  Cert.FfnFwd.Gen.facts, Cert.FfnFwdIdeal.Gen.facts, Cert.FfnFwdRefIdeal.Gen.facts, Cert.Pre_finite_f.Gen.facts,
  Cert.Pre_finite_c.Gen.facts,
  fun m ρ _ => Cert.Ffn.Gen.frame m ρ,
  fun m ρ _ => Cert.FfnIdeal.Gen.frame m ρ,
  fun m ρ _ => Cert.FfnIdeal.Gen.frame m ρ,
  ffn_reference_frame,
  fun m ρ _ => ffn_reference_frame m ρ trivial,
  fun m ρ _ => Cert.FfnDw.Gen.frame m ρ,
  fun m ρ _ => Cert.FfnDwIdeal.Gen.frame m ρ,
  dw_reference_frame,
  fun m ρ _ => Cert.Conv.Gen.frame m ρ,
  fun m ρ _ => Cert.ConvIdeal.Gen.frame m ρ,
  fun m ρ _ => Cert.ConvIdeal.Gen.frame m ρ,
  conv_reference_frame,
  fun m ρ _ => conv_reference_frame m ρ trivial,
  fun m ρ _ => Cert.FfnFwd.Gen.frame m ρ,
  fun m ρ _ => Cert.FfnFwdIdeal.Gen.frame m ρ,
  fwd_reference_frame,
  trivial,
  ffn_algebraic,
  trivial,
  dw_algebraic,
  trivial,
  conv_algebraic,
  trivial,
  fwd_algebraic⟩

end Cert.Proof

end
